-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_in_range [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_tables_in_range [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v26) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_Experts_ExpertsIdeal : Prop :=
  True

def algebraic_ExpertsIdeal_ExpertsRefIdeal_on_token_rows [hExpertsIdeal : Cert.ExpertsIdeal.Facts] [hExpertsRefIdeal : Cert.ExpertsRefIdeal.Facts] [hPre_tables_in_range : Cert.Pre_tables_in_range.Facts] [hOn_token_rows : Cert.On_token_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![81920, 2048]⟩ : Shape).Idx, (Cert.On_token_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![81920, 2048]⟩ : Shape).Idx, (Cert.On_token_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsRefIdeal.nD Cert.ExpertsRefIdeal.τ).loc Cert.ExpertsRefIdeal.main_v63) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hExpertsRefIdeal : Cert.ExpertsRefIdeal.Facts) (hPre_tables_in_range : Cert.Pre_tables_in_range.Facts) (hOn_token_rows : Cert.On_token_rows.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_Combine (hCombine := hCombine)
    ∧ quiescent_CombineIdeal (hCombineIdeal := hCombineIdeal)
    ∧ quiescent_CombineRefIdeal (hCombineRefIdeal := hCombineRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal)
    ∧ quiescent_ExpertsRefIdeal_pre_tables_in_range (hExpertsRefIdeal := hExpertsRefIdeal) (hPre_tables_in_range := hPre_tables_in_range)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_Combine_CombineIdeal
    ∧ algebraic_CombineIdeal_CombineRefIdeal (hCombineIdeal := hCombineIdeal) (hCombineRefIdeal := hCombineRefIdeal)
    ∧ preserves_Experts_ExpertsIdeal
    ∧ algebraic_ExpertsIdeal_ExpertsRefIdeal_on_token_rows (hExpertsIdeal := hExpertsIdeal) (hExpertsRefIdeal := hExpertsRefIdeal) (hPre_tables_in_range := hPre_tables_in_range) (hOn_token_rows := hOn_token_rows)
-- ==== On_token_rows.lean ====
abbrev S160 : Shape := ⟨1, ![160]⟩
abbrev S1 : Shape := ⟨1, ![1]⟩
abbrev S81920x1024 : Shape := ⟨2, ![81920, 1024]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S160x1 : Shape := ⟨2, ![160, 1]⟩
abbrev S1x1 : Shape := ⟨2, ![1, 1]⟩
abbrev S512 : Shape := ⟨1, ![512]⟩
abbrev S1x512 : Shape := ⟨2, ![1, 512]⟩
abbrev S160x512 : Shape := ⟨2, ![160, 512]⟩
abbrev S160x512x1 : Shape := ⟨3, ![160, 512, 1]⟩
abbrev S160x512x2048 : Shape := ⟨3, ![160, 512, 2048]⟩
abbrev S81920x2048 : Shape := ⟨2, ![81920, 2048]⟩

class Facts : Prop where
  bcast_S160_S160x1_0 : S160.BroadcastsInDim S160x1 (![0] : Fin 1 → Fin S160x1.rank)
  bcast_S1_S1x1_1 : S1.BroadcastsInDim S1x1 (![1] : Fin 1 → Fin S1x1.rank)
  bcast_S1x1_S160x1_0_1 : S1x1.BroadcastsInDim S160x1 (![0, 1] : Fin 2 → Fin S160x1.rank)
  bcast_S512_S1x512_1 : S512.BroadcastsInDim S1x512 (![1] : Fin 1 → Fin S1x512.rank)
  bcast_S1x512_S160x512_0_1 : S1x512.BroadcastsInDim S160x512 (![0, 1] : Fin 2 → Fin S160x512.rank)
  bcast_S160x1_S160x512_0_1 : S160x1.BroadcastsInDim S160x512 (![0, 1] : Fin 2 → Fin S160x512.rank)
  bcast_S160x512_S160x512x1_0_1 : S160x512.BroadcastsInDim S160x512x1 (![0, 1] : Fin 2 → Fin S160x512x1.rank)
  bcast_S160x512x1_S160x512x2048_0_1_2 : S160x512x1.BroadcastsInDim S160x512x2048 (![0, 1, 2] : Fin 3 → Fin S160x512x2048.rank)
  shapeCasts_S160x512x2048_S81920x2048 : S160x512x2048.ShapeCasts S81920x2048

variable [Facts]

def fn {F : FTy → Type} [FloatOps F] (main_arg0 : IVec S160 32) (main_arg1 : IVec S1 32) (main_arg2 : IVec S160 32) (main_arg3 : IVec S81920x1024 32) (main_arg4 : FVec F S32x2048x4096 .bf16) (main_arg5 : FVec F S32x1x4096 .f32) (main_arg6 : FVec F S32x2048x2048 .bf16) (main_arg7 : FVec F S32x1x2048 .f32) : IVec S81920x2048 1 :=
  let main_v0 : IVec S160 32 := iotaInDim S160 32 0
  let main_v1 : IVec S160x1 32 := broadcastInDim S160x1 ![0] bcast_S160_S160x1_0 main_v0
  let main_v2 : IVec S1x1 32 := broadcastInDim S1x1 ![1] bcast_S1_S1x1_1 main_arg1
  let main_v3 : IVec S160x1 32 := broadcastInDim S160x1 ![0, 1] bcast_S1x1_S160x1_0_1 main_v2
  let main_v4 : IVec S160x1 1 := cmpi .slt main_v1 main_v3
  let main_v5 : IVec S512 32 := iotaInDim S512 32 0
  let main_v6 : IVec S1x512 32 := broadcastInDim S1x512 ![1] bcast_S512_S1x512_1 main_v5
  let main_v7 : IVec S160x1 32 := broadcastInDim S160x1 ![0] bcast_S160_S160x1_0 main_arg2
  let main_v8 : IVec S160x512 32 := broadcastInDim S160x512 ![0, 1] bcast_S1x512_S160x512_0_1 main_v6
  let main_v9 : IVec S160x512 32 := broadcastInDim S160x512 ![0, 1] bcast_S160x1_S160x512_0_1 main_v7
  let main_v10 : IVec S160x512 1 := cmpi .sge main_v8 main_v9
  let main_v11 : IVec S160x512 1 := broadcastInDim S160x512 ![0, 1] bcast_S160x1_S160x512_0_1 main_v4
  let main_v12 : IVec S160x512 1 := andi main_v11 main_v10
  let main_v13 : IVec S160x512x1 1 := broadcastInDim S160x512x1 ![0, 1] bcast_S160x512_S160x512x1_0_1 main_v12
  let main_v14 : IVec S160x512x2048 1 := broadcastInDim S160x512x2048 ![0, 1, 2] bcast_S160x512x1_S160x512x2048_0_1_2 main_v13
  let main_v15 : IVec S81920x2048 1 := shapeCast S81920x2048 main_v14 shapeCasts_S160x512x2048_S81920x2048
  main_v15
-- ==== Pre_tables_in_range.lean ====
abbrev S160 : Shape := ⟨1, ![160]⟩
abbrev S1 : Shape := ⟨1, ![1]⟩
abbrev S81920x1024 : Shape := ⟨2, ![81920, 1024]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)
  bcast_S1_S160_0 : S1.BroadcastsInDim S160 (![0] : Fin 1 → Fin S160.rank)

variable [Facts]

def fn {F : FTy → Type} [FloatOps F] (main_arg0 : IVec S160 32) (main_arg1 : IVec S1 32) (main_arg2 : IVec S160 32) (main_arg3 : IVec S81920x1024 32) (main_arg4 : FVec F S32x2048x4096 .bf16) (main_arg5 : FVec F S32x1x4096 .f32) (main_arg6 : FVec F S32x2048x2048 .bf16) (main_arg7 : FVec F S32x1x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S160 1 := broadcastInDim S160 ![0] bcast_S1_S160_0 main_v6
  let main_v8 : IVec S160 1 := andi main_v4 main_v7
  let main_c_2 : IVec S_ 32 := constantI S_ 32 0#32
  let main_v9 : IVec S160 32 := broadcastInDim S160 ![] bcast_S_S160 main_c_2
  let main_v10 : IVec S160 1 := cmpi .sge main_arg2 main_v9
  let main_v11 : IVec S160 1 := andi main_v8 main_v10
  let main_c_3 : IVec S_ 32 := constantI S_ 32 512#32
  let main_v12 : IVec S160 32 := broadcastInDim S160 ![] bcast_S_S160 main_c_3
  let main_v13 : IVec S160 1 := cmpi .slt main_arg2 main_v12
  let main_v14 : IVec S160 1 := andi main_v11 main_v13
  main_v14
-- ==== Kernel.lean ====
abbrev S16384x2048 : Shape := ⟨2, ![16384, 2048]⟩
abbrev S2048 : Shape := ⟨1, ![2048]⟩
abbrev S2048x16400 : Shape := ⟨2, ![2048, 16400]⟩
abbrev S32x2048x4096 : Shape := ⟨3, ![32, 2048, 4096]⟩
abbrev S16400x2048 : Shape := ⟨2, ![16400, 2048]⟩
abbrev S2048x16384 : Shape := ⟨2, ![2048, 16384]⟩
abbrev S1024x2048 : Shape := ⟨2, ![1024, 2048]⟩
abbrev S2048x1024 : Shape := ⟨2, ![2048, 1024]⟩
abbrev S16x2048 : Shape := ⟨2, ![16, 2048]⟩
abbrev S_ : Shape := ⟨0, ![]⟩
abbrev S128x2048 : Shape := ⟨2, ![128, 2048]⟩
abbrev S1x2048 : Shape := ⟨2, ![1, 2048]⟩
abbrev S65536x4096 : Shape := ⟨2, ![65536, 4096]⟩
abbrev S16384x16384 : Shape := ⟨2, ![16384, 16384]⟩
abbrev S16384x128 : Shape := ⟨2, ![16384, 128]⟩
abbrev S256x4096 : Shape := ⟨2, ![256, 4096]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16400, .f32⟩
  | .hbm, ⟨3, _⟩ => ⟨S32x2048x4096, .f32⟩
  | .hbm, ⟨4, _⟩ => ⟨S16400x2048, .f32⟩
  | .hbm, ⟨5, _⟩ => ⟨S2048x16384, .bf16⟩
  | .hbm, ⟨6, _⟩ => ⟨S16x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S1x2048, .f32⟩
  | .hbm, ⟨11, _⟩ => ⟨S65536x4096, .f32⟩
  | .hbm, ⟨12, _⟩ => ⟨S16384x16384, .bf16⟩
  | .hbm, ⟨13, _⟩ => ⟨S16384x128, .f32⟩
  | .hbm, ⟨14, _⟩ => ⟨S65536x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S128x2048, .f32⟩
  | .local _ .vmem, ⟨10, _⟩ => ⟨S256x4096, .f32⟩
  | .local _ .vmem, ⟨11, _⟩ => ⟨S256x4096, .f32⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S256x4096, .bf16⟩
  | .local _ .vmem, ⟨17, _⟩ => ⟨S256x4096, .bf16⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c6_i32 : BitVec 32 := 6#32
  let v1 : BitVec 1 := Scalar.cmpi .sge arg0 c6_i32
  let v2 : BitVec 32 := Scalar.extui v1
  let v3 : BitVec 32 := Scalar.addi v0 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S16384x2048 : Shape := ⟨2, ![16384, 2048]⟩
abbrev S2048 : Shape := ⟨1, ![2048]⟩
abbrev S2048x16400 : Shape := ⟨2, ![2048, 16400]⟩
abbrev S32x2048x4096 : Shape := ⟨3, ![32, 2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x16400 : Shape := ⟨2, ![16384, 16400]⟩
abbrev S16384x1024 : Shape := ⟨2, ![16384, 1024]⟩
abbrev S16384x16 : Shape := ⟨2, ![16384, 16]⟩
abbrev S16384x16384 : Shape := ⟨2, ![16384, 16384]⟩
abbrev S16384x128 : Shape := ⟨2, ![16384, 128]⟩
abbrev S65536x4096 : Shape := ⟨2, ![65536, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16400, .f32⟩
  | .hbm, ⟨3, _⟩ => ⟨S32x2048x4096, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x16400, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S16384x2048, .f32⟩
  | .hbm, ⟨25, _⟩ => ⟨S16384x16, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x16384, .f32⟩
  | .hbm, ⟨32, _⟩ => ⟨S16384x16384, .bf16⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S65536x4096, .f32⟩
  | .hbm, ⟨37, _⟩ => ⟨S65536x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Merge.lean ====
abbrev S16384x2048 : Shape := ⟨2, ![16384, 2048]⟩
abbrev S16384x16384 : Shape := ⟨2, ![16384, 16384]⟩
abbrev S3x2048 : Shape := ⟨2, ![3, 2048]⟩
abbrev S2048 : Shape := ⟨1, ![2048]⟩
abbrev S2048x2048 : Shape := ⟨2, ![2048, 2048]⟩
abbrev S_ : Shape := ⟨0, ![]⟩
abbrev S8x2048 : Shape := ⟨2, ![8, 2048]⟩
abbrev S1x2048 : Shape := ⟨2, ![1, 2048]⟩
abbrev S256x2048 : Shape := ⟨2, ![256, 2048]⟩
abbrev S16x2048 : Shape := ⟨2, ![16, 2048]⟩
abbrev S256x1 : Shape := ⟨2, ![256, 1]⟩

abbrev nBuf : Space → Nat
  | .hbm => 16
  | .vmem => 25
  | .smem => 0
  | _ => 0

abbrev bufTy : (tb : Table) → Fin (tcTables nBuf tb) → BufTy
  | .hbm, ⟨0, _⟩ => ⟨S16384x2048, .bf16⟩
  | .hbm, ⟨1, _⟩ => ⟨S16384x16384, .bf16⟩
  | .hbm, ⟨2, _⟩ => ⟨S3x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S16384x2048, .f32⟩
  | .hbm, ⟨8, _⟩ => ⟨S_, .i32⟩
  | .hbm, ⟨9, _⟩ => ⟨S_, .f32⟩
  | .hbm, ⟨10, _⟩ => ⟨S8x2048, .f32⟩
  | .hbm, ⟨11, _⟩ => ⟨S1x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S8x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S2048x2048, .bf16⟩
  | .local _ .vmem, ⟨19, _⟩ => ⟨S2048x2048, .bf16⟩
  | .local _ .vmem, ⟨20, _⟩ => ⟨S2048x2048, .bf16⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x2048 : Shape := ⟨2, ![16384, 2048]⟩
abbrev S16384x16384 : Shape := ⟨2, ![16384, 16384]⟩
abbrev S3x2048 : Shape := ⟨2, ![3, 2048]⟩
abbrev S2048 : Shape := ⟨1, ![2048]⟩
abbrev S2048x2048 : Shape := ⟨2, ![2048, 2048]⟩
abbrev S_ : Shape := ⟨0, ![]⟩
abbrev S16386x2048 : Shape := ⟨2, ![16386, 2048]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x16384, .bf16⟩
  | .hbm, ⟨2, _⟩ => ⟨S3x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S16384x2048, .f32⟩
  | .hbm, ⟨8, _⟩ => ⟨S16384x16384, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .i32⟩
  | .hbm, ⟨18, _⟩ => ⟨S_, .f32⟩
  | .hbm, ⟨19, _⟩ => ⟨S16386x2048, .f32⟩
  | .hbm, ⟨20, _⟩ => ⟨S16384x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S_, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Combine.lean ====
abbrev S16384x2048 : Shape := ⟨2, ![16384, 2048]⟩
abbrev S4x16384x1024 : Shape := ⟨3, ![4, 16384, 1024]⟩
abbrev S16384x128 : Shape := ⟨2, ![16384, 128]⟩
abbrev S2048 : Shape := ⟨1, ![2048]⟩
abbrev S1x2048 : Shape := ⟨2, ![1, 2048]⟩
abbrev S512x2048 : Shape := ⟨2, ![512, 2048]⟩
abbrev S4x512x1024 : Shape := ⟨3, ![4, 512, 1024]⟩
abbrev S512x128 : Shape := ⟨2, ![512, 128]⟩
abbrev S512x1 : Shape := ⟨2, ![512, 1]⟩
abbrev S1x512x1024 : Shape := ⟨3, ![1, 512, 1024]⟩
abbrev S512x1024 : Shape := ⟨2, ![512, 1024]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S4x16384x1024, .i32⟩
  | .hbm, ⟨2, _⟩ => ⟨S16384x128, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S4x512x1024, .i32⟩
  | .local _ .vmem, ⟨3, _⟩ => ⟨S4x512x1024, .i32⟩
  | .local _ .vmem, ⟨4, _⟩ => ⟨S512x128, .f32⟩
  | .local _ .vmem, ⟨5, _⟩ => ⟨S512x128, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineRefIdeal.lean ====
abbrev S16384x2048 : Shape := ⟨2, ![16384, 2048]⟩
abbrev S4x16384x1024 : Shape := ⟨3, ![4, 16384, 1024]⟩
abbrev S16384x128 : Shape := ⟨2, ![16384, 128]⟩
abbrev S2048 : Shape := ⟨1, ![2048]⟩
abbrev S4x16384x1024x2 : Shape := ⟨4, ![4, 16384, 1024, 2]⟩
abbrev S4x16384x1024x1 : Shape := ⟨4, ![4, 16384, 1024, 1]⟩
abbrev S4x16384x2048 : Shape := ⟨3, ![4, 16384, 2048]⟩
abbrev S16384x4 : Shape := ⟨2, ![16384, 4]⟩
abbrev S4x16384 : Shape := ⟨2, ![4, 16384]⟩
abbrev S4x16384x1 : Shape := ⟨3, ![4, 16384, 1]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x16384x1024, .i32⟩
  | .hbm, ⟨2, _⟩ => ⟨S16384x128, .f32⟩
  | .hbm, ⟨3, _⟩ => ⟨S2048, .f32⟩
  | .hbm, ⟨4, _⟩ => ⟨S4x16384x1024x2, .bf16⟩
  | .hbm, ⟨5, _⟩ => ⟨S4x16384x1024x2, .f32⟩
  | .hbm, ⟨6, _⟩ => ⟨S4x16384x1024x1, .f32⟩
  | .hbm, ⟨7, _⟩ => ⟨S4x16384x1024, .f32⟩
  | .hbm, ⟨8, _⟩ => ⟨S4x16384x1024x1, .f32⟩
  | .hbm, ⟨9, _⟩ => ⟨S4x16384x1024, .f32⟩
  | .hbm, ⟨10, _⟩ => ⟨S4x16384x2048, .f32⟩
  | .hbm, ⟨11, _⟩ => ⟨S16384x4, .f32⟩
  | .hbm, ⟨12, _⟩ => ⟨S4x16384, .f32⟩
  | .hbm, ⟨13, _⟩ => ⟨S4x16384x1, .f32⟩
  | .hbm, ⟨14, _⟩ => ⟨S4x16384x2048, .f32⟩
  | .hbm, ⟨15, _⟩ => ⟨S4x16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S81920x1024 : Shape := ⟨2, ![81920, 1024]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S81920x2048 : Shape := ⟨2, ![81920, 2048]⟩
abbrev S512x1024 : Shape := ⟨2, ![512, 1024]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S512x2048 : Shape := ⟨2, ![512, 2048]⟩
abbrev S512x1 : Shape := ⟨2, ![512, 1]⟩
abbrev S2048x1024 : Shape := ⟨2, ![2048, 1024]⟩
abbrev S1x1024 : Shape := ⟨2, ![1, 1024]⟩
abbrev S1x2048 : Shape := ⟨2, ![1, 2048]⟩
abbrev S1024x2048 : Shape := ⟨2, ![1024, 2048]⟩
abbrev S384x1 : Shape := ⟨2, ![384, 1]⟩
abbrev S384x1024 : Shape := ⟨2, ![384, 1024]⟩
abbrev S384x2048 : Shape := ⟨2, ![384, 2048]⟩
abbrev S128x2048 : Shape := ⟨2, ![128, 2048]⟩
abbrev S256x1 : Shape := ⟨2, ![256, 1]⟩
abbrev S256x1024 : Shape := ⟨2, ![256, 1024]⟩
abbrev S256x2048 : Shape := ⟨2, ![256, 2048]⟩
abbrev S128x1 : Shape := ⟨2, ![128, 1]⟩
abbrev S128x1024 : Shape := ⟨2, ![128, 1024]⟩

abbrev nBuf : Space → Nat
  | .hbm => 6
  | .vmem => 16
  | .smem => 3
  | _ => 0

abbrev bufTy : (tb : Table) → Fin (tcTables nBuf tb) → BufTy
  | .hbm, ⟨0, _⟩ => ⟨S81920x1024, .i32⟩
  | .hbm, ⟨1, _⟩ => ⟨S32x2048x4096, .bf16⟩
  | .hbm, ⟨2, _⟩ => ⟨S32x1x4096, .f32⟩
  | .hbm, ⟨3, _⟩ => ⟨S32x2048x2048, .bf16⟩
  | .hbm, ⟨4, _⟩ => ⟨S32x1x2048, .f32⟩
  | .hbm, ⟨5, _⟩ => ⟨S81920x2048, .f32⟩
  | .local _ .vmem, ⟨0, _⟩ => ⟨S512x1024, .i32⟩
  | .local _ .vmem, ⟨1, _⟩ => ⟨S512x1024, .i32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .smem, ⟨0, _⟩ => ⟨S160, .i32⟩
  | .local _ .smem, ⟨1, _⟩ => ⟨S1, .i32⟩
  | .local _ .smem, ⟨2, _⟩ => ⟨S160, .i32⟩
  | _, _ => ⟨S81920x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) (v2 : BitVec 32) : BitVec 1 :=
  let arg0 : BitVec 32 := BitVec.ofNat 32 (i 0).val
  let v3 : BitVec 1 := Scalar.cmpi .slt arg0 v2
  let c0_i32 : BitVec 32 := 0#32
  let v4 : BitVec 1 := Scalar.cmpi .sge v1 c0_i32
  let v5 : BitVec 1 := Scalar.andi v3 v4
  let c128_i32 : BitVec 32 := 128#32
  let v6 : BitVec 1 := Scalar.cmpi .slt v1 c128_i32
  let v7 : BitVec 1 := Scalar.andi v5 v6
  let v8 : BitVec 32 := Scalar.extui v7
  let c0_i32_0 : BitVec 32 := 0#32
  let v9 : BitVec 1 := Scalar.cmpi .ne v8 c0_i32_0
  v9

def k0_cond2 (i : grid0.Coords) (v1 : BitVec 32) (v10 : BitVec 32) : BitVec 1 :=
  let arg0 : BitVec 32 := BitVec.ofNat 32 (i 0).val
  let v11 : BitVec 1 := Scalar.cmpi .slt arg0 v10
  let c128_i32_2 : BitVec 32 := 128#32
  let v12 : BitVec 1 := Scalar.cmpi .sge v1 c128_i32_2
  let v13 : BitVec 1 := Scalar.andi v11 v12
  let c256_i32 : BitVec 32 := 256#32
  let v14 : BitVec 1 := Scalar.cmpi .slt v1 c256_i32
  let v15 : BitVec 1 := Scalar.andi v13 v14
  let v16 : BitVec 32 := Scalar.extui v15
  let c0_i32_3 : BitVec 32 := 0#32
  let v17 : BitVec 1 := Scalar.cmpi .ne v16 c0_i32_3
  v17

def k0_cond3 (i : grid0.Coords) (v1 : BitVec 32) (v18 : BitVec 32) : BitVec 1 :=
  let arg0 : BitVec 32 := BitVec.ofNat 32 (i 0).val
  let v19 : BitVec 1 := Scalar.cmpi .slt arg0 v18
  let c256_i32_5 : BitVec 32 := 256#32
  let v20 : BitVec 1 := Scalar.cmpi .sge v1 c256_i32_5
  let v21 : BitVec 1 := Scalar.andi v19 v20
  let c384_i32 : BitVec 32 := 384#32
  let v22 : BitVec 1 := Scalar.cmpi .slt v1 c384_i32
  let v23 : BitVec 1 := Scalar.andi v21 v22
  let v24 : BitVec 32 := Scalar.extui v23
  let c0_i32_6 : BitVec 32 := 0#32
  let v25 : BitVec 1 := Scalar.cmpi .ne v24 c0_i32_6
  v25

def k0_cond4 (i : grid0.Coords) (v1 : BitVec 32) (v26 : BitVec 32) : BitVec 1 :=
  let arg0 : BitVec 32 := BitVec.ofNat 32 (i 0).val
  let v27 : BitVec 1 := Scalar.cmpi .slt arg0 v26
  let c384_i32_8 : BitVec 32 := 384#32
  let v28 : BitVec 1 := Scalar.cmpi .sge v1 c384_i32_8
  let v29 : BitVec 1 := Scalar.andi v27 v28
  let c512_i32 : BitVec 32 := 512#32
  let v30 : BitVec 1 := Scalar.cmpi .slt v1 c512_i32
  let v31 : BitVec 1 := Scalar.andi v29 v30
  let v32 : BitVec 32 := Scalar.extui v31
  let c0_i32_9 : BitVec 32 := 0#32
  let v33 : BitVec 1 := Scalar.cmpi .ne v32 c0_i32_9
  v33

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c2_i32 : BitVec 32 := 2#32
  let c0_i32_0 : BitVec 32 := 0#32
  ![v1.toNat, c0_i32.toNat, c2_i32.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c2_i32 : BitVec 32 := 2#32
  let c0_i32_0 : BitVec 32 := 0#32
  ![v1.toNat, c0_i32.toNat, c2_i32.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S160 : Shape := ⟨1, ![160]⟩
abbrev S1 : Shape := ⟨1, ![1]⟩
abbrev S81920x1024 : Shape := ⟨2, ![81920, 1024]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S81920x1024x2 : Shape := ⟨3, ![81920, 1024, 2]⟩
abbrev S81920x1024x1 : Shape := ⟨3, ![81920, 1024, 1]⟩
abbrev S81920x2048 : Shape := ⟨2, ![81920, 2048]⟩
abbrev S160x512x2048 : Shape := ⟨3, ![160, 512, 2048]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S160x1x4096 : Shape := ⟨3, ![160, 1, 4096]⟩
abbrev S160x512x1024 : Shape := ⟨3, ![160, 512, 1024]⟩
abbrev S160x2048x2048 : Shape := ⟨3, ![160, 2048, 2048]⟩
abbrev S160x1024x2048 : Shape := ⟨3, ![160, 1024, 2048]⟩
abbrev S160x1x2048 : Shape := ⟨3, ![160, 1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S160, .i32⟩
  | .hbm, ⟨3, _⟩ => ⟨S81920x1024, .i32⟩
  | .hbm, ⟨4, _⟩ => ⟨S32x2048x4096, .bf16⟩
  | .hbm, ⟨5, _⟩ => ⟨S32x1x4096, .f32⟩
  | .hbm, ⟨6, _⟩ => ⟨S32x2048x2048, .bf16⟩
  | .hbm, ⟨7, _⟩ => ⟨S32x1x2048, .f32⟩
  | .hbm, ⟨8, _⟩ => ⟨S81920x1024x2, .bf16⟩
  | .hbm, ⟨9, _⟩ => ⟨S81920x1024x2, .f32⟩
  | .hbm, ⟨10, _⟩ => ⟨S81920x1024x1, .f32⟩
  | .hbm, ⟨11, _⟩ => ⟨S81920x1024, .f32⟩
  | .hbm, ⟨12, _⟩ => ⟨S81920x1024x1, .f32⟩
  | .hbm, ⟨13, _⟩ => ⟨S81920x1024, .f32⟩
  | .hbm, ⟨14, _⟩ => ⟨S81920x2048, .f32⟩
  | .hbm, ⟨15, _⟩ => ⟨S160x512x2048, .f32⟩
  | .hbm, ⟨16, _⟩ => ⟨S_, .i32⟩
  | .hbm, ⟨17, _⟩ => ⟨S160, .i32⟩
  | .hbm, ⟨18, _⟩ => ⟨S160, .i1⟩
  | .hbm, ⟨19, _⟩ => ⟨S_, .i32⟩
  | .hbm, ⟨20, _⟩ => ⟨S160, .i32⟩
  | .hbm, ⟨21, _⟩ => ⟨S160, .i32⟩
  | .hbm, ⟨22, _⟩ => ⟨S160, .i32⟩
  | .hbm, ⟨23, _⟩ => ⟨S160x1, .i32⟩
  | .hbm, ⟨24, _⟩ => ⟨S160x2048x4096, .bf16⟩
  | .hbm, ⟨25, _⟩ => ⟨S160x2048x4096, .f32⟩
  | .hbm, ⟨26, _⟩ => ⟨S160x512x4096, .f32⟩
  | .hbm, ⟨27, _⟩ => ⟨S_, .i32⟩
  | .hbm, ⟨28, _⟩ => ⟨S160, .i32⟩
  | .hbm, ⟨29, _⟩ => ⟨S160, .i1⟩
  | .hbm, ⟨30, _⟩ => ⟨S_, .i32⟩
  | .hbm, ⟨31, _⟩ => ⟨S160, .i32⟩
  | .hbm, ⟨32, _⟩ => ⟨S160, .i32⟩
  | .hbm, ⟨33, _⟩ => ⟨S160, .i32⟩
  | .hbm, ⟨34, _⟩ => ⟨S160x1, .i32⟩
  | .hbm, ⟨35, _⟩ => ⟨S160x1x4096, .f32⟩
  | .hbm, ⟨36, _⟩ => ⟨S160x512x4096, .f32⟩
  | .hbm, ⟨37, _⟩ => ⟨S160x512x4096, .f32⟩
  | .hbm, ⟨38, _⟩ => ⟨S160x512x2048, .f32⟩
  | .hbm, ⟨39, _⟩ => ⟨S_, .f32⟩
  | .hbm, ⟨40, _⟩ => ⟨S160x512x2048, .f32⟩
  | .hbm, ⟨41, _⟩ => ⟨S160x512x2048, .f32⟩
  | .hbm, ⟨42, _⟩ => ⟨S160x512x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S160x512x2048, .f32⟩
  | .hbm, ⟨47, _⟩ => ⟨S160x512x2048, .f32⟩
  | .hbm, ⟨48, _⟩ => ⟨S_, .f32⟩
  | .hbm, ⟨49, _⟩ => ⟨S160x512x2048, .f32⟩
  | .hbm, ⟨50, _⟩ => ⟨S160x512x2048, .f32⟩
  | .hbm, ⟨51, _⟩ => ⟨S_, .f32⟩
  | .hbm, ⟨52, _⟩ => ⟨S160x512x2048, .f32⟩
  | .hbm, ⟨53, _⟩ => ⟨S160x512x2048, .f32⟩
  | .hbm, ⟨54, _⟩ => ⟨S160x512x2048, .f32⟩
  | .hbm, ⟨55, _⟩ => ⟨S_, .f32⟩
  | .hbm, ⟨56, _⟩ => ⟨S160x512x2048, .f32⟩
  | .hbm, ⟨57, _⟩ => ⟨S160x512x2048, .f32⟩
  | .hbm, ⟨58, _⟩ => ⟨S160x512x2048, .f32⟩
  | .hbm, ⟨59, _⟩ => ⟨S160x512x2048, .f32⟩
  | .hbm, ⟨60, _⟩ => ⟨S_, .f32⟩
  | .hbm, ⟨61, _⟩ => ⟨S160x512x2048, .f32⟩
  | .hbm, ⟨62, _⟩ => ⟨S160x512x2048, .f32⟩
  | .hbm, ⟨63, _⟩ => ⟨S_, .f32⟩
  | .hbm, ⟨64, _⟩ => ⟨S160x512x2048, .f32⟩
  | .hbm, ⟨65, _⟩ => ⟨S160x512x2048, .f32⟩
  | .hbm, ⟨66, _⟩ => ⟨S160x512x2048, .f32⟩
  | .hbm, ⟨67, _⟩ => ⟨S160x512x1024, .f32⟩
  | .hbm, ⟨68, _⟩ => ⟨S_, .i32⟩
  | .hbm, ⟨69, _⟩ => ⟨S160, .i32⟩
  | .hbm, ⟨70, _⟩ => ⟨S160, .i1⟩
  | .hbm, ⟨71, _⟩ => ⟨S_, .i32⟩
  | .hbm, ⟨72, _⟩ => ⟨S160, .i32⟩
  | .hbm, ⟨73, _⟩ => ⟨S160, .i32⟩
  | .hbm, ⟨74, _⟩ => ⟨S160, .i32⟩
  | .hbm, ⟨75, _⟩ => ⟨S160x1, .i32⟩
  | .hbm, ⟨76, _⟩ => ⟨S160x2048x2048, .bf16⟩
  | .hbm, ⟨77, _⟩ => ⟨S160x1024x2048, .bf16⟩
  | .hbm, ⟨78, _⟩ => ⟨S160x1024x2048, .f32⟩
  | .hbm, ⟨79, _⟩ => ⟨S160x512x2048, .f32⟩
  | .hbm, ⟨80, _⟩ => ⟨S_, .i32⟩
  | .hbm, ⟨81, _⟩ => ⟨S160, .i32⟩
  | .hbm, ⟨82, _⟩ => ⟨S160, .i1⟩
  | .hbm, ⟨83, _⟩ => ⟨S_, .i32⟩
  | .hbm, ⟨84, _⟩ => ⟨S160, .i32⟩
  | .hbm, ⟨85, _⟩ => ⟨S160, .i32⟩
  | .hbm, ⟨86, _⟩ => ⟨S160, .i32⟩
  | .hbm, ⟨87, _⟩ => ⟨S160x1, .i32⟩
  | .hbm, ⟨88, _⟩ => ⟨S160x1x2048, .f32⟩
  | .hbm, ⟨89, _⟩ => ⟨S160x512x2048, .f32⟩
  | .hbm, ⟨90, _⟩ => ⟨S160x512x2048, .f32⟩
  | .hbm, ⟨91, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Proof.Halves.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What each grid point of the two calls (the weight preparation, the input projection) leaves in its
staging buffers, from the contents `V` the arrays have when the call starts. The projection keeps the
normalised rows of the current row block in a scratch buffer: computed at the first column tile of a row
block, read at the other fifteen. -/

@[expose] public section

set_option maxRecDepth 16384

noncomputable section

namespace Cert.KernelIdeal.Halves

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The weight preparation -/

/-- Window `w`'s block of call 0 at point `t`. -/
def blkOf0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole of an array of shape 1024x2048. -/
abbrev all1024x2048 : Rect S1024x2048 := Rect.unit (s := S1024x2048) ![0, 0] S1024x2048.size inb_S1024x2048_S1024x2048_0_0
/-- The whole of an array of shape 2048x1024. -/
abbrev all2048x1024 : Rect S2048x1024 := Rect.unit (s := S2048x1024) ![0, 0] S2048x1024.size inb_S2048x1024_S2048x1024_0_0
/-- The whole of an array of shape 1x2048. -/
abbrev all1x2048 : Rect S1x2048 := Rect.unit (s := S1x2048) ![0, 0] S1x2048.size inb_S1x2048_S1x2048_0_0
/-- The whole of an array of shape 128x2048. -/
abbrev all128x2048 : Rect S128x2048 := Rect.unit (s := S128x2048) ![0, 0] S128x2048.size inb_S128x2048_S128x2048_0_0
/-- The whole of an array of shape 256x4096. -/
abbrev all256x4096 : Rect S256x4096 := Rect.unit (s := S256x4096) ![0, 0] S256x4096.size inb_S256x4096_S256x4096_0_0
/-- The whole of an array of shape 1024x1024. -/
abbrev all1024x1024 : Rect S1024x1024 := Rect.unit (s := S1024x1024) ![0, 0] S1024x1024.size inb_S1024x1024_S1024x1024_0_0
/-- The whole of an array of shape 1024x128. -/
abbrev all1024x128 : Rect S1024x128 := Rect.unit (s := S1024x128) ![0, 0] S1024x128.size inb_S1024x128_S1024x128_0_0

/-- The block of converted weights a point of the preparation writes. -/
def prepOut (x0 : Vec F S1024x2048 .f32) : Vec F S2048x1024 .bf16 :=
  View.canon [⟨all2048x1024, k0_pay1 (View.ld x0 all1024x2048)⟩]

theorem covP (p : Vec F S2048x1024 .bf16) (y : S2048x1024.Idx) :
    ∃ pc ∈ ([⟨all2048x1024, p⟩] : List (View.Piece (Elt F) S2048x1024 .bf16)), y ∈ pc.1.set :=
  View.cover_of_tiled [⟨all2048x1024, p⟩] S2048x1024.size (by rfl) y

set_option maxHeartbeats 1000000 in
theorem prepBody (c : Dev nD) (E : Set ℕ) (i : grid0.Coords) (a1 : Memref sig .tc .vmem S1024x2048 .f32) (h1 : a1.IsWhole)
    (a2 : Memref sig .tc .vmem S2048x1024 .bf16) (h2 : a2.IsWhole) (x0 : Vec F S1024x2048 .f32) (K : PUnit → sProp 𝕄) :
    iprop(owns (c : Thread nD τ) a1 fullShare x0 ∗ (∃ d, owns (c : Thread nD τ) a2 fullShare d)
        ∗ (iprop(owns (c : Thread nD τ) a1 fullShare x0 ∗ owns (c : Thread nD τ) a2 fullShare (prepOut x0)) -∗ K ⟨⟩))
      ⊢ wp frame (wpE (defs₀ (F := F)) Variants.none c none) E (cc0_w_in_prep i a1 h1 a2 h2) K := by
  simp only [cc0_w_in_prep_eq_skeleton]; unfold cc0_w_in_prep_skel owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covP _)

/-- The preparation's data: its input block stays, its output block is `prepOut` of it. -/
def data0 (c : Dev nD) : Dat τ (Elt F) Unit ℕ (UR sig nD τ) ℕ cfg0 c where
  A w := V c (Pipeline.arrRef spec0 w)
  after w t := match w with
    | ⟨0, _⟩ => blkOf0 V c 0 t
    | ⟨1, _⟩ => prepOut (blkOf0 V c 0 t)
  Φ _ := Pipeline.ΦA spec0 c
  q _ := fullShare
  owed _ := 0

theorem entry0 (c : Dev nD) (w : Fin cfg0.W) : (data0 V c).A w = V c (Pipeline.arrRef spec0 w) := by
  dsimp only [data0]
theorem after0_0 (c : Dev nD) (t : Fin cfg0.N) : (data0 V c).after 0 t = blkOf0 V c 0 t := by dsimp only [data0]
theorem after0_1 (c : Dev nD) (t : Fin cfg0.N) : (data0 V c).after 1 t = prepOut (blkOf0 V c 0 t) := by
  dsimp only [data0]
theorem before0_0 (c : Dev nD) (t : Fin cfg0.N) (d) : (data0 V c).before 0 t d = blkOf0 V c 0 t :=
  ((data0 V c).before_in_eq_fetched 0 rfl (fun _ => rfl) (fun _ _ _ => rfl)
    (fun t => by rw [after0_0]; unfold Dat.blockOf blkOf0; rw [entry0]; try rfl) t d).trans
    (by unfold Dat.fetched Dat.blockOf blkOf0; rw [entry0]; try rfl)

def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d)))
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t))

theorem triple0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (data0 V c).Φ t.succ = (data0 V c).Φ t.castSucc from rfl,
    show (data0 V c).owesAt () t.succ = (data0 V c).owesAt () t.castSucc from rfl, after0_0, after0_1]
  iintro ⟨HΦ, Ho, ⟨%d0, H0⟩, ⟨%d1, H1⟩⟩
  iapply (prepBody c Set.univ (grid0.coords t) _ _ _ _ (blkOf0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem obligation0 (c : Dev nD) :
    BodyObligation (data0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (triple0 V c t) rfl .rfl fun _ => .rfl

/-! ## The input projection -/

/-- Window `w`'s block of call 1 at point `t`. -/
def blkOf1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The first point of the row block point `t` belongs to. -/
def rowStart (t : Fin cfg1.N) : Fin cfg1.N := ⟨t.val / 16 * 16, Nat.lt_of_le_of_lt (Nat.div_mul_le_self _ _) t.isLt⟩

theorem rowStart_of_first (t : Fin cfg1.N) (h : t.val % 16 = 0) : rowStart t = t := by
  apply Fin.ext; show t.val / 16 * 16 = t.val; omega

theorem rowStart_of_next (s t : Fin cfg1.N) (h : s.val + 1 = t.val) (ht : ¬ t.val % 16 = 0) : rowStart s = rowStart t := by
  apply Fin.ext; show s.val / 16 * 16 = t.val / 16 * 16; omega

theorem first_iff : ∀ t : Fin cfg1.N, k1_cond1 (grid1.coords t) = 1#1 ↔ t.val % 16 = 0 :=
  (fun t => by
    have ht : t.val < 256 := Nat.lt_of_lt_of_eq t.isLt N_1
    have e0 : (grid1.coords t 0).val = t.val / 16 % 16 := Pipeline.Grid.coords_val t 0 (by decide) rfl
    have e1 : (grid1.coords t 1).val = t.val / 1 % 16 := Pipeline.Grid.coords_val t 1 (by decide) rfl
    simp only [k1_cond1, e0, e1]
    word_cmp
   : ∀ t : Fin grid1.N, k1_cond1 (grid1.coords t) = 1#1 ↔ t.val % 16 = 0)

/-- The normalised rows of a row block. -/
def normOut (x : Vec F S1024x2048 .f32) (g : Vec F S1x2048 .f32) : Vec F S1024x2048 .bf16 :=
  View.canon [⟨all1024x2048, k1_pay2 (View.ld x all1024x2048) (View.ld g all1x2048)⟩]
/-- The low-rank columns of a row block. -/
def lowOut (x : Vec F S1024x2048 .f32) (g : Vec F S1x2048 .f32) (w : Vec F S128x2048 .f32) : Vec F S1024x128 .f32 :=
  View.canon [⟨all1024x128, k1_pay3 (View.ld x all1024x2048) (View.ld g all1x2048) (View.ld w all128x2048)⟩]
/-- One column tile of the projection of a row block. -/
def tileOut (h : Vec F S1024x2048 .bf16) (w : Vec F S2048x1024 .bf16) : Vec F S1024x1024 .bf16 :=
  View.canon [⟨all1024x1024, k1_pay4 (View.ld h all1024x2048) (View.ld w all2048x1024)⟩]
/-- The block of expert weights converted beside it. -/
def sideOut (x : Vec F S256x4096 .f32) : Vec F S256x4096 .bf16 :=
  View.canon [⟨all256x4096, k1_pay5 (View.ld x all256x4096)⟩]

theorem covN (p : Vec F S1024x2048 .bf16) (y : S1024x2048.Idx) :
    ∃ pc ∈ ([⟨all1024x2048, p⟩] : List (View.Piece (Elt F) S1024x2048 .bf16)), y ∈ pc.1.set :=
  View.cover_of_tiled [⟨all1024x2048, p⟩] S1024x2048.size (by rfl) y
theorem covL (p : Vec F S1024x128 .f32) (y : S1024x128.Idx) :
    ∃ pc ∈ ([⟨all1024x128, p⟩] : List (View.Piece (Elt F) S1024x128 .f32)), y ∈ pc.1.set :=
  View.cover_of_tiled [⟨all1024x128, p⟩] S1024x128.size (by rfl) y
theorem covT (p : Vec F S1024x1024 .bf16) (y : S1024x1024.Idx) :
    ∃ pc ∈ ([⟨all1024x1024, p⟩] : List (View.Piece (Elt F) S1024x1024 .bf16)), y ∈ pc.1.set :=
  View.cover_of_tiled [⟨all1024x1024, p⟩] S1024x1024.size (by rfl) y
theorem covS (p : Vec F S256x4096 .bf16) (y : S256x4096.Idx) :
    ∃ pc ∈ ([⟨all256x4096, p⟩] : List (View.Piece (Elt F) S256x4096 .bf16)), y ∈ pc.1.set :=
  View.cover_of_tiled [⟨all256x4096, p⟩] S256x4096.size (by rfl) y

set_option maxHeartbeats 1000000 in
/-- A point that starts a row block: the rows are normalised, kept, and used. -/
theorem bodyFirst (c : Dev nD) (E : Set ℕ) (i : grid1.Coords) (a2 : Memref sig .tc .vmem S1024x2048 .f32) (h2 : a2.IsWhole) (a3 : Memref sig .tc .vmem S1x2048 .f32) (h3 : a3.IsWhole)
    (a4 : Memref sig .tc .vmem S2048x1024 .bf16) (h4 : a4.IsWhole) (a5 : Memref sig .tc .vmem S128x2048 .f32) (h5 : a5.IsWhole)
    (a6 : Memref sig .tc .vmem S256x4096 .f32) (h6 : a6.IsWhole) (a7 : Memref sig .tc .vmem S1024x1024 .bf16) (h7 : a7.IsWhole)
    (a8 : Memref sig .tc .vmem S1024x128 .f32) (h8 : a8.IsWhole) (a9 : Memref sig .tc .vmem S256x4096 .bf16) (h9 : a9.IsWhole)
    (a10 : Memref sig .tc .vmem S1024x2048 .bf16) (h10 : a10.IsWhole)
    (hc0 : k1_cond1 i = 1#1) (x0 : Vec F S1024x2048 .f32) (x1 : Vec F S1x2048 .f32) (x2 : Vec F S2048x1024 .bf16) (x3 : Vec F S128x2048 .f32) (x4 : Vec F S256x4096 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (tileOut (normOut x0 x1) x2) ∗ owns (c : Thread nD τ) a8 fullShare (lowOut x0 x1 x3) ∗ owns (c : Thread nD τ) a9 fullShare (sideOut x4) ∗ owns (c : Thread nD τ) a10 fullShare (normOut x0 x1)) -∗ K ⟨⟩))
      ⊢ wp frame (wpE (defs₀ (F := F)) Variants.none c none) E (cc1_in_proj i a2 h2 a3 h3 a4 h4 a5 h5 a6 h6 a7 h7 a8 h8 a9 h9 a10 h10) K := by
  simp only [cc1_in_proj_eq_skeleton]; unfold cc1_in_proj_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine (View.read_writes_eq_canon _ _ _ (covT _)).trans ?_
    unfold bodyFirst.sl.v3 bodyFirst.sl.HS_1
    rw [View.readCov_eq_canon_ld _ _ _ (covN _)]; rfl
  isplitl [H6]
  · iexists _; isplitr; swap; · iexact H6
    ipureintro; exact View.read_writes_eq_canon _ _ _ (covL _)
  isplitl [H7]
  · iexists _; isplitr; swap; · iexact H7
    ipureintro; exact View.read_writes_eq_canon _ _ _ (covS _)
  iexists _; isplitr; swap; · iexact HS
  ipureintro; exact View.read_writes_eq_canon _ _ _ (covN _)

set_option maxHeartbeats 1000000 in
/-- Any other point of a row block: the kept rows `h` are used; the low-rank columns `l` stay. -/
theorem bodyNext (c : Dev nD) (E : Set ℕ) (i : grid1.Coords) (a2 : Memref sig .tc .vmem S1024x2048 .f32) (h2 : a2.IsWhole) (a3 : Memref sig .tc .vmem S1x2048 .f32) (h3 : a3.IsWhole)
    (a4 : Memref sig .tc .vmem S2048x1024 .bf16) (h4 : a4.IsWhole) (a5 : Memref sig .tc .vmem S128x2048 .f32) (h5 : a5.IsWhole)
    (a6 : Memref sig .tc .vmem S256x4096 .f32) (h6 : a6.IsWhole) (a7 : Memref sig .tc .vmem S1024x1024 .bf16) (h7 : a7.IsWhole)
    (a8 : Memref sig .tc .vmem S1024x128 .f32) (h8 : a8.IsWhole) (a9 : Memref sig .tc .vmem S256x4096 .bf16) (h9 : a9.IsWhole)
    (a10 : Memref sig .tc .vmem S1024x2048 .bf16) (h10 : a10.IsWhole)
    (hc0 : ¬ k1_cond1 i = 1#1) (x0 : Vec F S1024x2048 .f32) (x1 : Vec F S1x2048 .f32) (x2 : Vec F S2048x1024 .bf16) (x3 : Vec F S128x2048 .f32) (x4 : Vec F S256x4096 .f32) (l : Vec F S1024x128 .f32) (h : Vec F S1024x2048 .bf16) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare l ∗ (∃ d, owns (c : Thread nD τ) a9 fullShare d) ∗ owns (c : Thread nD τ) a10 fullShare h
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (tileOut h x2) ∗ owns (c : Thread nD τ) a8 fullShare l ∗ owns (c : Thread nD τ) a9 fullShare (sideOut x4) ∗ owns (c : Thread nD τ) a10 fullShare h) -∗ K ⟨⟩))
      ⊢ wp frame (wpE (defs₀ (F := F)) Variants.none c none) E (cc1_in_proj i a2 h2 a3 h3 a4 h4 a5 h5 a6 h6 a7 h7 a8 h8 a9 h9 a10 h10) K := by
  simp only [cc1_in_proj_eq_skeleton]; unfold cc1_in_proj_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%fs, %hfs, HS⟩, Hk⟩
  subst hf0 hf1 hf2 hf3 hf4 hf6 hfs
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; exact View.read_writes_eq_canon _ _ _ (covT _)
  isplitl [H6]
  · iexists f6; isplitr; · ipureintro; rfl
    iexact H6
  isplitl [H7]
  · iexists _; isplitr; swap; · iexact H7
    ipureintro; exact View.read_writes_eq_canon _ _ _ (covS _)
  iexists fs; isplitr; · ipureintro; rfl
  iexact HS

/-! ### The call's data -/

/-- The scratch buffer of the projection. -/
abbrev keep : Memref sig .tc .vmem S1024x2048 .bf16 := Memref.whole cc1_scratch0
/-- The rows kept while point `t` runs. -/
def kept (c : Dev nD) (t : Fin cfg1.N) : Vec F S1024x2048 .bf16 :=
  normOut (blkOf1 V c 0 (rowStart t)) (blkOf1 V c 1 (rowStart t))
/-- The low-rank columns of the row block of point `t`. -/
def low (c : Dev nD) (t : Fin cfg1.N) : Vec F S1024x128 .f32 :=
  lowOut (blkOf1 V c 0 (rowStart t)) (blkOf1 V c 1 (rowStart t)) (blkOf1 V c 3 (rowStart t))

/-- Between points: the scratch holds the rows the point just run kept (anything before the first point);
the other call's staging buffers and the generator register are as they were. -/
def inv1 (c : Dev nD) (n : Fin (cfg1.N + 1)) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ d, ⌜∀ t : Fin cfg1.N, t.val + 1 = n.val → d = kept V c t⌝ ∗ owns (c : Thread nD τ) keep fullShare d))
    ∗ ∃ r, prngReg c r)

/-- The projection's data. -/
def data1 (c : Dev nD) : Dat τ (Elt F) Unit ℕ (UR sig nD τ) ℕ cfg1 c where
  A w := V c (Pipeline.arrRef spec1 w)
  after w t := match w with
    | ⟨0, _⟩ => blkOf1 V c 0 t
    | ⟨1, _⟩ => blkOf1 V c 1 t
    | ⟨2, _⟩ => blkOf1 V c 2 t
    | ⟨3, _⟩ => blkOf1 V c 3 t
    | ⟨4, _⟩ => blkOf1 V c 4 t
    | ⟨5, _⟩ => tileOut (kept V c t) (blkOf1 V c 2 t)
    | ⟨6, _⟩ => low V c t
    | ⟨7, _⟩ => sideOut (blkOf1 V c 4 t)
  Φ n := inv1 V c n
  q _ := fullShare
  owed _ := 0

theorem entry1 (c : Dev nD) (w : Fin cfg1.W) : (data1 V c).A w = V c (Pipeline.arrRef spec1 w) := by
  dsimp only [data1]
theorem after1_0 (c : Dev nD) (t : Fin cfg1.N) : (data1 V c).after 0 t = blkOf1 V c 0 t := by dsimp only [data1]
theorem after1_1 (c : Dev nD) (t : Fin cfg1.N) : (data1 V c).after 1 t = blkOf1 V c 1 t := by dsimp only [data1]
theorem after1_2 (c : Dev nD) (t : Fin cfg1.N) : (data1 V c).after 2 t = blkOf1 V c 2 t := by dsimp only [data1]
theorem after1_3 (c : Dev nD) (t : Fin cfg1.N) : (data1 V c).after 3 t = blkOf1 V c 3 t := by dsimp only [data1]
theorem after1_4 (c : Dev nD) (t : Fin cfg1.N) : (data1 V c).after 4 t = blkOf1 V c 4 t := by dsimp only [data1]
theorem after1_5 (c : Dev nD) (t : Fin cfg1.N) : (data1 V c).after 5 t = tileOut (kept V c t) (blkOf1 V c 2 t) := by
  dsimp only [data1]
theorem after1_6 (c : Dev nD) (t : Fin cfg1.N) : (data1 V c).after 6 t = low V c t := by dsimp only [data1]
theorem after1_7 (c : Dev nD) (t : Fin cfg1.N) : (data1 V c).after 7 t = sideOut (blkOf1 V c 4 t) := by
  dsimp only [data1]
theorem before1_0 (c : Dev nD) (t : Fin cfg1.N) (d) : (data1 V c).before 0 t d = blkOf1 V c 0 t :=
  ((data1 V c).before_in_eq_fetched 0 rfl (fun _ => rfl) (fun _ _ _ => rfl)
    (fun t => by rw [after1_0]; unfold Dat.blockOf blkOf1; rw [entry1]; try rfl) t d).trans
    (by unfold Dat.fetched Dat.blockOf blkOf1; rw [entry1]; try rfl)
theorem before1_1 (c : Dev nD) (t : Fin cfg1.N) (d) : (data1 V c).before 1 t d = blkOf1 V c 1 t :=
  ((data1 V c).before_in_eq_fetched 1 rfl (fun _ => rfl) (fun _ _ _ => rfl)
    (fun t => by rw [after1_1]; unfold Dat.blockOf blkOf1; rw [entry1]; try rfl) t d).trans
    (by unfold Dat.fetched Dat.blockOf blkOf1; rw [entry1]; try rfl)
theorem before1_2 (c : Dev nD) (t : Fin cfg1.N) (d) : (data1 V c).before 2 t d = blkOf1 V c 2 t :=
  ((data1 V c).before_in_eq_fetched 2 rfl (fun _ => rfl) (fun _ _ _ => rfl)
    (fun t => by rw [after1_2]; unfold Dat.blockOf blkOf1; rw [entry1]; try rfl) t d).trans
    (by unfold Dat.fetched Dat.blockOf blkOf1; rw [entry1]; try rfl)
theorem before1_3 (c : Dev nD) (t : Fin cfg1.N) (d) : (data1 V c).before 3 t d = blkOf1 V c 3 t :=
  ((data1 V c).before_in_eq_fetched 3 rfl (fun _ => rfl) (fun _ _ _ => rfl)
    (fun t => by rw [after1_3]; unfold Dat.blockOf blkOf1; rw [entry1]; try rfl) t d).trans
    (by unfold Dat.fetched Dat.blockOf blkOf1; rw [entry1]; try rfl)
theorem before1_4 (c : Dev nD) (t : Fin cfg1.N) (d) : (data1 V c).before 4 t d = blkOf1 V c 4 t :=
  ((data1 V c).before_in_eq_fetched 4 rfl (fun _ => rfl) (fun _ _ _ => rfl)
    (fun t => by rw [after1_4]; unfold Dat.blockOf blkOf1; rw [entry1]; try rfl) t d).trans
    (by unfold Dat.fetched Dat.blockOf blkOf1; rw [entry1]; try rfl)

theorem idle1_first (t : Fin cfg1.N) (h : t.val % 16 = 0) : cfg1.idle 6 (cfg1.grid.coords t) = false := by
  show (!(k1_cond1 (grid1.coords t) == 1#1)) = false
  rw [(first_iff t).mpr h]; rfl
theorem idle1_next (t : Fin cfg1.N) (h : ¬ t.val % 16 = 0) : cfg1.idle 6 (cfg1.grid.coords t) = true := by
  show (!(k1_cond1 (grid1.coords t) == 1#1)) = true
  rw [beq_eq_false_iff_ne.mpr fun e => h ((first_iff t).mp e)]; rfl

/-- Inside a row block the low-rank columns are still in their staging buffer. -/
theorem before1_6_of (c : Dev nD) (n : ℕ) : ∀ t : Fin cfg1.N, t.val = n → ¬ t.val % 16 = 0 →
    ∀ d, (data1 V c).before 6 t d = low V c t := by
  induction n with
  | zero => intro t h ht; exact absurd (by rw [h]) ht
  | succ n ih =>
    intro t h ht d
    have hs : t.val - 1 < cfg1.N := Nat.lt_of_le_of_lt (Nat.sub_le _ _) t.isLt
    have hfl : (cfg1.win 6).flush ⟨t.val - 1, hs⟩ = false := by
      rw [Bool.eq_false_iff]
      intro e
      have := (flush1_6 _).mp e
      simp only at this
      omega
    have hl : low V c ⟨t.val - 1, hs⟩ = low V c t := by
      unfold low; rw [rowStart_of_next ⟨t.val - 1, hs⟩ t (by simp only; omega) ht]
    rw [(data1 V c).before_of_pos 6 t (by omega) ((cfg1.win 6).fetch_out rfl t), hfl, if_neg Bool.false_ne_true]
    unfold Dat.left
    by_cases hz : (t.val - 1) % 16 = 0
    · rw [idle1_first ⟨t.val - 1, hs⟩ hz]
      show (data1 V c).kept 6 ⟨t.val - 1, hs⟩ d = _
      unfold Dat.kept
      rw [Pipeline.fill_of_clip_none 6 _ (fun _ => rfl) d ((data1 V c).after 6 _), Window.fill_cut, after1_6]
      exact hl
    · rw [idle1_next ⟨t.val - 1, hs⟩ hz]
      exact (ih ⟨t.val - 1, hs⟩ (by simp only; omega) hz d).trans hl

theorem before1_6 (c : Dev nD) (t : Fin cfg1.N) (ht : ¬ t.val % 16 = 0) (d) : (data1 V c).before 6 t d = low V c t :=
  before1_6_of V c t.val t rfl ht d

/-- The staging buffer at the row block's columns is what a point must leave there, changed or not. -/
theorem leaves6 (c : Dev nD) (t : Fin cfg1.N) :
    (owns (c : Thread nD τ) (st1_6 t) fullShare (low V c t) : sProp 𝕄) ⊢ (data1 V c).leavesExact 6 t := by
  unfold Dat.leavesExact
  by_cases h : t.val % 16 = 0
  · rw [idle1_first t h, after1_6]
  · rw [idle1_next t h]
    cases (cfg1.win 6).flush t
    · simp only [before1_6 V c t h]
      iintro H; iexists (fun _ => Classical.arbitrary _); iexact H
    · simp only [after1_6]; exact .rfl

def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d)))
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ (data1 V c).leavesExact 6 t
    ∗ owns (c : Thread nD τ) (st1_7 t) fullShare ((data1 V c).after 7 t))

set_option maxHeartbeats 1600000 in
theorem triple1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (data1 V c).Φ t.succ = inv1 V c t.succ from rfl, show (data1 V c).Φ t.castSucc = inv1 V c t.castSucc from rfl,
    show (data1 V c).owesAt () t.succ = (data1 V c).owesAt () t.castSucc from rfl,
    after1_0, after1_1, after1_2, after1_3, after1_4, after1_5, after1_7]
  unfold inv1
  by_cases h0 : t.val % 16 = 0
  · have hk : kept V c t = normOut (blkOf1 V c 0 t) (blkOf1 V c 1 t) := by unfold kept; rw [rowStart_of_first t h0]
    have hl : low V c t = lowOut (blkOf1 V c 0 t) (blkOf1 V c 1 t) (blkOf1 V c 3 t) := by
      unfold low; rw [rowStart_of_first t h0]
    have hl6 := leaves6 V c t
    rw [hl] at hl6
    rw [hk]
    iintro ⟨⟨⟨Ha, Hb, Hc, Hd, %d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyFirst c Set.univ (grid1.coords t) _ _ _ _ _ _ _ _ _ _ _ _ _ _ _ _ _ _ ((first_iff t).mpr h0) (blkOf1 V c 0 t) (blkOf1 V c 1 t) (blkOf1 V c 2 t) (blkOf1 V c 3 t) (blkOf1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexists _; isplitr; swap; · iexact HS
        ipureintro
        intro s hs
        have hst : s = t := Fin.ext (by have : s.val + 1 = t.val + 1 := hs; omega)
        rw [hst, hk]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iexact H7
  · have hl6 := leaves6 V c t
    simp only [before1_6 V c t h0]
    iintro ⟨⟨⟨Ha, Hb, Hc, Hd, %d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hN : 0 < t.val := by omega
    have hdt : d = kept V c t := by
      rw [hd ⟨t.val - 1, by omega⟩ (by show t.val - 1 + 1 = t.val; omega)]
      unfold kept
      rw [rowStart_of_next ⟨t.val - 1, _⟩ t (by simp only; omega) h0]
    subst hdt
    iapply (bodyNext c Set.univ (grid1.coords t) _ _ _ _ _ _ _ _ _ _ _ _ _ _ _ _ _ _ (fun h => h0 ((first_iff t).mp h)) (blkOf1 V c 0 t) (blkOf1 V c 1 t) (blkOf1 V c 2 t) (blkOf1 V c 3 t) (blkOf1 V c 4 t) (low V c t) (kept V c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [HS]; · iexact HS
    iintro ⟨H0, H1, H2, H3, H4, H5, H6, H7, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexists _; isplitr; swap; · iexact HS
        ipureintro
        intro s hs
        have hst : s = t := Fin.ext (by have : s.val + 1 = t.val + 1 := hs; omega)
        rw [hst]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iexact H7

theorem obligation1 (c : Dev nD) :
    BodyObligation (data1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (triple1 V c t) rfl .rfl fun _ => .rfl

end Cert.KernelIdeal.Halves

end
-- ==== Proof.JointRun.lean ====
module

public import proofs.«01_k».proof.Proof.Halves
public import proofs.«01_k».proof.Proof.Gen.KernelIdeal.Regions

/-! The run of the first kernel program: what every array holds at each boundary between a stretch of host
operations and a call, and the run from the launch to the return. -/

@[expose] public section

set_option maxRecDepth 16384

noncomputable section

namespace Cert.KernelIdeal.Joint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Halves

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer, per device. -/
abbrev Conts := Dev nD → Valuation τ sig (Elt F)
/-- The same, read at the references the calls use. -/
abbrev at_ (W : Dev nD → Valuation τ sig (Elt F)) : (c : Dev nD) → (b : Ref sig .tc) → Buf (Elt F) ((c : Thread nD τ).loc b) :=
  fun c b => W c b

/-- As launched. -/
abbrev C0 : Dev nD → Valuation τ sig (Elt F) := fun c b => (s₀ m ρ).mem ((c : Dev nD), b)
/-- Before the preparation. -/
abbrev C1 : Dev nD → Valuation τ sig (Elt F) := fun c => StableHlo.after hostOps0 (C0 m ρ c)
/-- After the preparation. -/
def C2 (c : Dev nD) : Valuation τ sig (Elt F) :=
  Pipeline.withArrays spec0 c (C1 m ρ c) fun w => (data0 (at_ (C1 m ρ)) c).arrAt w cfg0.N
abbrev C3 : Dev nD → Valuation τ sig (Elt F) := fun c => StableHlo.after hostOps1 (C2 m ρ c)
abbrev C4 : Dev nD → Valuation τ sig (Elt F) := fun c => StableHlo.after hostOps1_1 (C3 m ρ c)
/-- Before the projection. -/
abbrev C5 : Dev nD → Valuation τ sig (Elt F) := fun c => StableHlo.after hostOps1_2 (C4 m ρ c)
/-- After the projection. -/
def C6 (c : Dev nD) : Valuation τ sig (Elt F) :=
  Pipeline.withArrays spec1 c (C5 m ρ c) fun w => (data1 (at_ (C5 m ρ)) c).arrAt w cfg1.N

theorem C2_arr (c : Dev nD) (w : Fin cfg0.W) :
    C2 m ρ c (Proc.devRef .tc (Pipeline.arrRef spec0 w)) = (data0 (at_ (C1 m ρ)) c).arrAt w cfg0.N := by
  unfold C2; exact Pipeline.withArrays_arr spec0 launch0.win.arr_inj c _ _ w
theorem C2_off (c : Dev nD) (b : Ref sig .tc) (hb : ∀ w, Pipeline.arrRef spec0 w ≠ b) :
    C2 m ρ c (Proc.devRef .tc b) = C1 m ρ c (Proc.devRef .tc b) := by
  unfold C2; exact Pipeline.withArrays_of_ne spec0 c _ _ b hb
/-- A reference that is none of the call's results is as it was. -/
theorem C2_of (c : Dev nD) (r : Ref sig .tc) (h : ∀ w : Fin cfg0.W, Pipeline.arrRef spec0 w = r → (cfg0.win w).isOut = false) :
    C2 m ρ c (Proc.devRef .tc r) = C1 m ρ c (Proc.devRef .tc r) := by
  by_cases hw : ∃ w : Fin cfg0.W, Pipeline.arrRef spec0 w = r
  · obtain ⟨w, rfl⟩ := hw
    exact (C2_arr m ρ c w).trans (((data0 (at_ (C1 m ρ)) c).arrAt_in w (h w rfl) _).trans (entry0 (at_ (C1 m ρ)) c w))
  · exact C2_off m ρ c r fun w e => hw ⟨w, e⟩
theorem arrs0 (c : Dev nD) (w : Fin cfg0.W) :
    (data0 (at_ (C1 m ρ)) c).arrAt w cfg0.N = at_ (C2 m ρ) c (Pipeline.arrRef spec0 w) := (C2_arr m ρ c w).symm
theorem rest0 (c : Dev nD) : ∀ b, b ∉ Finset.univ.image (Pipeline.arrRef spec0) →
    at_ (C2 m ρ) c b = at_ (C1 m ρ) c b :=
  fun b hb => C2_off m ρ c b fun w e => hb (Finset.mem_image.mpr ⟨w, Finset.mem_univ _, e⟩)

theorem C6_arr (c : Dev nD) (w : Fin cfg1.W) :
    C6 m ρ c (Proc.devRef .tc (Pipeline.arrRef spec1 w)) = (data1 (at_ (C5 m ρ)) c).arrAt w cfg1.N := by
  unfold C6; exact Pipeline.withArrays_arr spec1 launch1.win.arr_inj c _ _ w
theorem C6_off (c : Dev nD) (b : Ref sig .tc) (hb : ∀ w, Pipeline.arrRef spec1 w ≠ b) :
    C6 m ρ c (Proc.devRef .tc b) = C5 m ρ c (Proc.devRef .tc b) := by
  unfold C6; exact Pipeline.withArrays_of_ne spec1 c _ _ b hb
/-- A reference that is none of the call's results is as it was. -/
theorem C6_of (c : Dev nD) (r : Ref sig .tc) (h : ∀ w : Fin cfg1.W, Pipeline.arrRef spec1 w = r → (cfg1.win w).isOut = false) :
    C6 m ρ c (Proc.devRef .tc r) = C5 m ρ c (Proc.devRef .tc r) := by
  by_cases hw : ∃ w : Fin cfg1.W, Pipeline.arrRef spec1 w = r
  · obtain ⟨w, rfl⟩ := hw
    exact (C6_arr m ρ c w).trans (((data1 (at_ (C5 m ρ)) c).arrAt_in w (h w rfl) _).trans (entry1 (at_ (C5 m ρ)) c w))
  · exact C6_off m ρ c r fun w e => hw ⟨w, e⟩
theorem arrs1 (c : Dev nD) (w : Fin cfg1.W) :
    (data1 (at_ (C5 m ρ)) c).arrAt w cfg1.N = at_ (C6 m ρ) c (Pipeline.arrRef spec1 w) := (C6_arr m ρ c w).symm
theorem rest1 (c : Dev nD) : ∀ b, b ∉ Finset.univ.image (Pipeline.arrRef spec1) →
    at_ (C6 m ρ) c b = at_ (C5 m ρ) c b :=
  fun b hb => C6_off m ρ c b fun w e => hb (Finset.mem_image.mpr ⟨w, Finset.mem_univ _, e⟩)

theorem C1_of (c : Dev nD) (r : Ref sig .tc) (h : r ∉ hostOps0_W) :
    C1 m ρ c (Proc.devRef .tc r) = C0 m ρ c (Proc.devRef .tc r) :=
  StableHlo.after_of_writes_sub hostOps0 _ hostOps0_writes h
theorem C3_of (c : Dev nD) (r : Ref sig .tc) (h : r ∉ hostOps1_W) :
    C3 m ρ c (Proc.devRef .tc r) = C2 m ρ c (Proc.devRef .tc r) :=
  StableHlo.after_of_writes_sub hostOps1 _ hostOps1_writes h
theorem C4_of (c : Dev nD) (r : Ref sig .tc) (h : r ∉ hostOps1_1_W) :
    C4 m ρ c (Proc.devRef .tc r) = C3 m ρ c (Proc.devRef .tc r) :=
  StableHlo.after_of_writes_sub hostOps1_1 _ hostOps1_1_writes h
theorem C5_of (c : Dev nD) (r : Ref sig .tc) (h : r ∉ hostOps1_2_W) :
    C5 m ρ c (Proc.devRef .tc r) = C4 m ρ c (Proc.devRef .tc r) :=
  StableHlo.after_of_writes_sub hostOps1_2 _ hostOps1_2_writes h

/-- The arguments. -/
abbrev argRefs : List (Ref sig .tc) := [main_arg0, main_arg1, main_arg2, main_arg3]
theorem args0 : ∀ a ∈ argRefs, a ∉ hostOps0_W := by decide
theorem args1 : ∀ a ∈ argRefs, a ∉ hostOps1_W := by decide
theorem args1_1 : ∀ a ∈ argRefs, a ∉ hostOps1_1_W := by decide
theorem args1_2 : ∀ a ∈ argRefs, a ∉ hostOps1_2_W := by decide
theorem argsIn0 : ∀ a ∈ argRefs, ∀ w : Fin cfg0.W, Pipeline.arrRef spec0 w = a → (cfg0.win w).isOut = false := by
  decide +kernel
theorem argsIn1 : ∀ a ∈ argRefs, ∀ w : Fin cfg1.W, Pipeline.arrRef spec1 w = a → (cfg1.win w).isOut = false := by
  decide +kernel
/-- An argument ends as launched. -/
theorem C6_args (c : Dev nD) (a : Ref sig .tc) (h : a ∈ argRefs) :
    C6 m ρ c (Proc.devRef .tc a) = m ((c : Thread nD τ).loc a) :=
  (C6_of m ρ c a (argsIn1 a h)).trans ((C5_of m ρ c a (args1_2 a h)).trans ((C4_of m ρ c a (args1_1 a h)).trans
    ((C3_of m ρ c a (args1 a h)).trans ((C2_of m ρ c a (argsIn0 a h)).trans ((C1_of m ρ c a (args0 a h)).trans rfl)))))

/-! ## The calls and the host stretches in sequence -/

abbrev adm : (p : Fin 2) → (pcfgs (F := F) p).Adm := fun p => (cfgs p).toPCfg_adm
/-- Each call's data at the contents it starts from. -/
def datas : (p : Fin 2) → (c : Dev nD) → Dat τ (Elt F) Unit ℕ (UR sig nD τ) ℕ (Pipeline.pin (pcfgs (F := F)) adm p) c
  | ⟨0, _⟩ => fun c => data0 (at_ (C1 m ρ)) c
  | ⟨1, _⟩ => fun c => data1 (at_ (C5 m ρ)) c
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the return. -/
abbrev T6 (c : Dev nD) : sProp 𝕄 := iprop(StableHlo.held (c : Thread nD τ) (Pipeline.ucRefs τ sig) (C6 m ρ c) ∗ ∃ r, prngReg c r)

set_option backward.isDefEq.respectTransparency.types false in
/-- Call 0, from `C1` to `C2`. -/
def reg0 : Pipeline.RegionSeg (pcfgs (F := F)) adm (datas m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (at_ (C1 m ρ)) c).loose
  hwaits := Pipeline.hwaits_of_owed_zero _ _ _ _ L lv 0 fun _ _ => rfl
  pre c := iprop(StableHlo.held (c : Thread nD τ) (Pipeline.ucRefs τ sig) (C1 m ρ c) ∗ R c)
  post c := iprop(StableHlo.held (c : Thread nD τ) (Pipeline.ucRefs τ sig) (C2 m ρ c) ∗ R c)
  X c := iprop(∃ r, prngReg c r)
  Y c := iprop(∃ r, prngReg c r)
  Z c := Pipeline.unscopedRest (Ix := Unit) (Name := ℕ) (U := UR sig nD τ) (Lvl := ℕ) spec0 c (at_ (C1 m ρ) c)
  hentry c := by
    rw [Pipeline.ownSems0_none]
    have hsplit := Pipeline.arrays_of_unscopedBufs (p := 0) (pcfgs (F := F)) adm (datas m ρ) launch0.win launch0.arr_whole c
      ((datas m ρ 0 c).share_full fun _ => rfl) (at_ (C1 m ρ) c) (entry0 (at_ (C1 m ρ)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datas m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (datas m ρ) ((datas m ρ 0 c).share_full fun _ => rfl)
      (at_ (C1 m ρ) c) (at_ (C2 m ρ) c) ((datas m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, from `C5` to `C6`. -/
def reg1 : Pipeline.RegionSeg (pcfgs (F := F)) adm (datas m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (at_ (C5 m ρ)) c).loose
  hwaits := Pipeline.hwaits_of_owed_zero _ _ _ _ L lv 1 fun _ _ => rfl
  pre c := iprop(StableHlo.held (c : Thread nD τ) (Pipeline.ucRefs τ sig) (C5 m ρ c) ∗ R c)
  post c := iprop(T6 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at_ (C5 m ρ) c)
  hentry c := by
    rw [Pipeline.ownSems0_none]
    have hsplit := Pipeline.arrays_of_unscopedBufs (p := 1) (pcfgs (F := F)) adm (datas m ρ) launch1.win launch1.arr_whole c
      ((datas m ρ 1 c).share_full fun _ => rfl) (at_ (C5 m ρ) c) (entry1 (at_ (C5 m ρ)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m ρ 1 c).Φ 0 = inv1 (at_ (C5 m ρ)) c 0 from rfl]; unfold inv1
    rw [show (Pipeline.pin (pcfgs (F := F)) adm 1).spec = spec1 from rfl, scopedRest1_eq]
    simp only [keep, owns_whole]
    iintro ⟨Hp, -, Ha, Hb, Hc, Hd, %f, Hs⟩
    isplitr [Hp]
    · isplitl [Ha]; · iexact Ha
      isplitl [Hb]; · iexact Hb
      isplitl [Hc]; · iexact Hc
      isplitl [Hd]; · iexact Hd
      iexists f
      isplitr
      · ipureintro; intro t h; exact absurd h (Nat.succ_ne_zero _)
      iexact Hs
    iexact Hp
  hout c := by
    rw [Pipeline.ownSems0_none, show (datas m ρ 1 c).Φ (Fin.last _) = inv1 (at_ (C5 m ρ)) c (Fin.last _) from rfl]; unfold inv1
    rw [show (Pipeline.pin (pcfgs (F := F)) adm 1).spec = spec1 from rfl, scopedRest1_eq]
    simp only [keep, owns_whole]
    iintro ⟨⟨Ha, Hb, Hc, Hd, %f, -, Hs⟩, Hp⟩
    isplitl [Hp]; · iexact Hp
    isplitr; · iempintro
    isplitl [Ha]; · iexact Ha
    isplitl [Hb]; · iexact Hb
    isplitl [Hc]; · iexact Hc
    isplitl [Hd]; · iexact Hd
    iexists f; iexact Hs
  hexit c := by
    have hjoin := Pipeline.unscopedBufs_of_arrays (p := 1) (pcfgs (F := F)) adm (Ix := Unit) (Name := ℕ) (U := UR sig nD τ) (Lvl := ℕ)
      launch1.win launch1.arr_whole c (datas m ρ) ((datas m ρ 1 c).share_full fun _ => rfl)
      (at_ (C5 m ρ) c) (at_ (C6 m ρ) c) ((datas m ρ 1 c).arrAt · cfg1.N) (arrs1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program in order. -/
abbrev steps : List (Pipeline.Seg (pcfgs (F := F)) adm (datas m ρ) () defs₀ 𝒱₀ L lv) :=
  [ .host (stretch hostOps0 hostOps0_sub hostOps0_fresh (C0 m ρ)),
    .region (reg0 m ρ),
    .host (stretch hostOps1 hostOps1_sub hostOps1_fresh (C2 m ρ)),
    .host (stretch hostOps1_1 hostOps1_1_sub hostOps1_1_fresh (C3 m ρ)),
    .host (stretch hostOps1_2 hostOps1_2_sub hostOps1_2_fresh (C4 m ρ)),
    .region (reg1 m ρ) ]
theorem main_steps (c : Dev nD) : main (F := F) c = Pipeline.Seg.run (steps m ρ) := (main_chain c).trans (by chain_rfl)

theorem no_unscoped : ∀ sm : SemLoc sig, sm.isScoped .tc = true := by decide

set_option backward.isDefEq.respectTransparency.types false in
/-- The run: the three results at what the projection's write-backs leave, the arguments as launched, every
counter at zero. -/
theorem run_main : θ_run defs (onTc (τ := τ) (main (F := F))) ⟨m, fun _ => 0, ρ⟩ (fun r => (∀ c : Dev nD,
      r.2.mem ((c.tc : Thread nD τ).loc main_v6_0) = (data1 (at_ (C5 m ρ)) c).arrAt 5 cfg1.N ∧
      r.2.mem ((c.tc : Thread nD τ).loc main_v6_1) = (data1 (at_ (C5 m ρ)) c).arrAt 6 cfg1.N ∧
      r.2.mem ((c.tc : Thread nD τ).loc main_v6_2) = (data1 (at_ (C5 m ρ)) c).arrAt 7 cfg1.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3))
      ∧ r.2.sem = fun _ => 0) :=
  Pipeline.θ_run_regions_kit_sems (pcfgs (F := F)) adm (datas m ρ) () cellOf_inj emb₁ defs₀ 𝒱₀ L lv m ρ main (steps m ρ)
    (fun c Q => by rw [main_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m ρ c) ∗ R c)) (Tₙ := T6 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (C0 m ρ c)
        from Pipeline.unscopedBufs_held c (C0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C6 m ρ c b)
    (hfin := fun c s' => by
      iintro ⟨⟨Hh, -⟩, HSI⟩
      unfold StableHlo.held
      imodintro
      iapply (pointsTo_read_all (Pipeline.ucRefs τ sig) (fun b => (((c : Thread nD τ)).1, b)) (C6 m ρ c) s')
      isplitl [Hh] <;> iassumption)
    (hQ := fun s h hz => ⟨(fun c =>
      ⟨(h c _ (mem_uc main_v6_0 (by decide))).trans (C6_arr m ρ c 5),
       (h c _ (mem_uc main_v6_1 (by decide))).trans (C6_arr m ρ c 6),
       (h c _ (mem_uc main_v6_2 (by decide))).trans (C6_arr m ρ c 7),
       (h c _ (mem_uc main_arg0 (by decide))).trans (C6_args m ρ c main_arg0 (by decide)),
       (h c _ (mem_uc main_arg1 (by decide))).trans (C6_args m ρ c main_arg1 (by decide)),
       (h c _ (mem_uc main_arg2 (by decide))).trans (C6_args m ρ c main_arg2 (by decide)),
       (h c _ (mem_uc main_arg3 (by decide))).trans (C6_args m ρ c main_arg3 (by decide))⟩), funext fun g => hz g (.inr (no_unscoped g.2))⟩)

end Cert.KernelIdeal.Joint

end
-- ==== Proof.InProjRef.lean ====
/- The first reference's three results, entry by entry: the normalised rows against the weight without its low-rank
   columns, the low-rank columns' own products, and the weights in their order. -/
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace InProjSpec

/-- One entry of a normalised row: the row `x`, its entry `v`, the gain `g`. -/
def nrow (x : Fin 2048 → EReal) (v g : EReal) : EReal :=
  v * Ideal.rsqrt (Ideal.div (∑ l, x l * x l) (Ideal.ofBits .f32 0x45000000#32) + Ideal.ofBits .f32 0x3727C5AC#32) * g

/-- A normalised row against one column of the weight. -/
def proj (x g w : Fin 2048 → EReal) : EReal := ∑ l, nrow x (x l) (g l) * w l

theorem nrow_congr {x x' : Fin 2048 → EReal} {v v' g g' : EReal} (hx : ∀ l, x l = x' l) (hv : v = v') (hg : g = g') :
    nrow x v g = nrow x' v' g' := by
  rw [funext hx, hv, hg]
theorem proj_congr {x x' g g' w w' : Fin 2048 → EReal} (hx : ∀ l, x l = x' l) (hg : ∀ l, g l = g' l) (hw : ∀ l, w l = w' l) :
    proj x g w = proj x' g' w' := by
  rw [funext hx, funext hg, funext hw]

/-- Where a column of the first result lies in the weight: the sixteen low-rank columns left out. -/
def past (C : Fin 16384) : Fin 16400 := ⟨if C.val < 6144 then C.val else C.val + 16, by split <;> omega⟩

end InProjSpec

namespace Cert.ReferenceIdeal.Value
open Cert.ReferenceIdeal Cert.ReferenceIdeal.Gen InProjSpec

/-- The product every result but the last is cut from. -/
def PROJ (a0 : FVec Ideal S16384x2048 .f32) (a1 : FVec Ideal S2048 .f32) (a2 : FVec Ideal S2048x16400 .f32) :
    FVec Ideal S16384x16400 .f32 :=
  Host.dotGeneral dot_S16384x2048_S2048x16400_S16384x16400_1_0_0_1_n_n none (mulf (mulf a0 (broadcastInDim S16384x2048
  ![0, 1] bcast_S16384x1_S16384x2048_0_1 (Host.rsqrt (addf (Host.divf (broadcastInDim S16384x1 ![0]
  bcast_S16384_S16384x1_0 (Host.reduceAdd (mulf a0 a0) (constant S_ .f32 0x00000000#32) reducesTo_S16384x2048_S16384_d1
  h_S_)) (broadcastInDim S16384x1 ![] bcast_S_S16384x1 (constant S_ .f32 0x45000000#32))) (broadcastInDim S16384x1 ![]
  bcast_S_S16384x1 (constant S_ .f32 0x3727C5AC#32)))))) (broadcastInDim S16384x2048 ![0, 1]
  bcast_S1x2048_S16384x2048_0_1 (broadcastInDim S1x2048 ![1] bcast_S2048_S1x2048_1 a1))) a2
/-- The first result. -/
def REF_p (a0 : FVec Ideal S16384x2048 .f32) (a1 : FVec Ideal S2048 .f32) (a2 : FVec Ideal S2048x16400 .f32) :
    FVec Ideal S16384x16384 .bf16 :=
  truncf .bf16 ((concatenate S16384x16384 1 [⟨S16384x1024, ((extractStridedSlice S16384x1024 ![0, 0] (PROJ a0 a1 a2)
  slices_S16384x16400_S16384x1024_0_0))⟩, ⟨S16384x1024, ((extractStridedSlice S16384x1024 ![0, 1024] (PROJ a0 a1 a2)
  slices_S16384x16400_S16384x1024_0_1024))⟩, ⟨S16384x2048, ((extractStridedSlice S16384x2048 ![0, 2048] (PROJ a0 a1 a2)
  slices_S16384x16400_S16384x2048_0_2048))⟩, ⟨S16384x2048, ((extractStridedSlice S16384x2048 ![0, 4096] (PROJ a0 a1 a2)
  slices_S16384x16400_S16384x2048_0_4096))⟩, ⟨S16384x2048, ((extractStridedSlice S16384x2048 ![0, 6160] (PROJ a0 a1 a2)
  slices_S16384x16400_S16384x2048_0_6160))⟩, ⟨S16384x2048, ((extractStridedSlice S16384x2048 ![0, 8208] (PROJ a0 a1 a2)
  slices_S16384x16400_S16384x2048_0_8208))⟩, ⟨S16384x2048, ((extractStridedSlice S16384x2048 ![0, 10256] (PROJ a0 a1 a2)
  slices_S16384x16400_S16384x2048_0_10256))⟩, ⟨S16384x2048, ((extractStridedSlice S16384x2048 ![0, 12304] (PROJ a0 a1
  a2) slices_S16384x16400_S16384x2048_0_12304))⟩, ⟨S16384x2048, ((extractStridedSlice S16384x2048 ![0, 14352] (PROJ a0
  a1 a2) slices_S16384x16400_S16384x2048_0_14352))⟩]
  concatenates_S16384x1024_S16384x1024_S16384x2048_S16384x2048_S16384x2048_S16384x2048_S16384x2048_S16384x2048_S16384x2048_S16384x16384_d1))
  bitsLt_bf16_f32
/-- The second. -/
def REF_a (a0 : FVec Ideal S16384x2048 .f32) (a1 : FVec Ideal S2048 .f32) (a2 : FVec Ideal S2048x16400 .f32) :
    FVec Ideal S16384x128 .f32 :=
  pad S16384x128 ![0, 0] ![0, 112] ![0, 0] (extractStridedSlice S16384x16 ![0, 6144] (PROJ a0 a1 a2)
  slices_S16384x16400_S16384x16_0_6144) (sitofp .f32 (constantI S_ 32 0#32)) pads_S16384x16_S16384x128_000_01120 h_S_
/-- The third. -/
def REF_u (a3 : FVec Ideal S32x2048x4096 .f32) : FVec Ideal S65536x4096 .bf16 :=
  truncf .bf16 (shapeCast S65536x4096 a3 shapeCasts_S32x2048x4096_S65536x4096) bitsLt_bf16_f32

theorem proj_zero : (FloatOps.sitofp .f32 0#32 : Ideal .f32) = 0 := by
  show ((((0#32 : BitVec 32).toInt : ℝ)) : EReal) = 0
  simp

theorem PROJ_apply (a0 : FVec Ideal S16384x2048 .f32) (a1 : FVec Ideal S2048 .f32) (a2 : FVec Ideal S2048x16400 .f32)
    (R : Fin 16384) (C : Fin 16400) :
    PROJ a0 a1 a2 (ix2 R C) = proj (fun l => a0 (ix2 R l)) (fun l => a1 (ix1 l)) (fun l => a2 (ix2 l C)) := by
  pointwise [PROJ]
  unfold proj nrow
  rfl

theorem ofRef_p (a0 : FVec Ideal S16384x2048 .f32) (a1 : FVec Ideal S2048 .f32) (a2 : FVec Ideal S2048x16400 .f32)
    (R : Fin 16384) (C : Fin 16384) :
    REF_p a0 a1 a2 (ix2 R C) = proj (fun l => a0 (ix2 R l)) (fun l => a1 (ix1 l)) (fun l => a2 (ix2 l (past C))) := by
  rw [← PROJ_apply a0 a1 a2 R (past C)]
  unfold REF_p
  generalize PROJ a0 a1 a2 = D
  have hC := C.isLt
  have e : ∀ (n : Nat) (h : n < 16400), n = (if C.val < 6144 then C.val else C.val + 16) →
      D (ix2 R ⟨n, h⟩) = D (ix2 R (past C)) := by
    intro n h hn
    exact congrArg (fun q => D (ix2 R q)) (Fin.ext hn)
  pointwise
  repeat' split
  all_goals first | (refine e _ _ ?_; split <;> omega) | (exfalso; omega)

theorem ofRef_a (a0 : FVec Ideal S16384x2048 .f32) (a1 : FVec Ideal S2048 .f32) (a2 : FVec Ideal S2048x16400 .f32)
    (R : Fin 16384) (q : Fin 128) :
    REF_a a0 a1 a2 (ix2 R q) = if h : q.val < 16 then
      proj (fun l => a0 (ix2 R l)) (fun l => a1 (ix1 l)) (fun l => a2 (ix2 l ⟨6144 + q.val, by omega⟩)) else 0 := by
  split
  · rename_i h
    rw [← PROJ_apply a0 a1 a2 R ⟨6144 + q.val, by omega⟩]
    unfold REF_a
    generalize PROJ a0 a1 a2 = D
    pointwise
    rw [dif_pos h]
  · rename_i h
    unfold REF_a
    generalize PROJ a0 a1 a2 = D
    pointwise
    rw [dif_neg h, proj_zero]

end Cert.ReferenceIdeal.Value

end
-- ==== Proof.InProjStep.lean ====
/- One step of each call of the first kernel program, entry by entry. -/
module

public import proofs.«01_k».proof.Proof.Halves
public import proofs.«01_k».proof.Proof.InProjRef

@[expose] public section

set_option maxRecDepth 16384

noncomputable section

open Idealize.ShloMosaic Idealize.ShloMosaic.TcCoe Idealize.SL.Sem

namespace Cert.KernelIdeal.Value
open Cert.KernelIdeal Cert.KernelIdeal.Gen Cert.KernelIdeal.Halves InProjSpec

/-- The preparation's tile: the rows it read, as columns. -/
theorem ofPrep (x : Vec Ideal S1024x2048 .f32) (k : Fin 2048) (j : Fin 1024) :
    prepOut (F := Ideal) x (ix2 k j) = x (ix2 j k) := by
  unfold prepOut
  frame_out
  pointwise [k0_pay1]

theorem ofNorm (x : Vec Ideal S1024x2048 .f32) (g : Vec Ideal S1x2048 .f32) (r : Fin 1024) (l : Fin 2048) :
    normOut (F := Ideal) x g (ix2 r l) = nrow (fun l => x (ix2 r l)) (x (ix2 r l)) (g (ix2 0 l)) := by
  unfold normOut
  frame_out
  pointwise [k1_pay1, k1_pay2]
  unfold nrow
  rfl

theorem ofTile (h : Vec Ideal S1024x2048 .bf16) (w : Vec Ideal S2048x1024 .bf16) (r : Fin 1024) (j : Fin 1024) :
    tileOut (F := Ideal) h w (ix2 r j) = ∑ l : Fin 2048, h (ix2 r l) * w (ix2 l j) := by
  unfold tileOut
  frame_out
  pointwise [k1_pay4]

theorem ofLow (x : Vec Ideal S1024x2048 .f32) (g : Vec Ideal S1x2048 .f32) (w : Vec Ideal S128x2048 .f32) (r : Fin 1024) (q : Fin 128) :
    lowOut (F := Ideal) x g w (ix2 r q) = proj (fun l => x (ix2 r l)) (fun l => g (ix2 0 l)) (fun l => w (ix2 q l)) := by
  unfold lowOut
  frame_out
  pointwise [k1_pay1, k1_pay3]
  unfold proj nrow
  rfl

theorem ofSide (x : Vec Ideal S256x4096 .f32) (r : Fin 256) (j : Fin 4096) :
    sideOut (F := Ideal) x (ix2 r j) = x (ix2 r j) := by
  unfold sideOut
  frame_out
  pointwise [k1_pay5]

end Cert.KernelIdeal.Value

end
-- ==== Proof.InProjValue.lean ====
/- What the first kernel program leaves in its three results, at the ideal values: the preparation's array as the
   projection finds it, the blocks of every point, and the reference's three terms. -/
module

public import proofs.«01_k».proof.Proof.JointRun
public import proofs.«01_k».proof.Proof.InProjStep

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Halves Cert.KernelIdeal.Joint InProjSpec

variable (m : (ℓ : Loc nD τ sig) → Buf (Elt Ideal) ℓ) (ρ : Dev nD → PrngReg)

/-! ## The arguments -/
abbrev X (c : Dev nD) : FVec Ideal S16384x2048 .f32 := m ((c : Thread nD τ).loc main_arg0)
abbrev G (c : Dev nD) : FVec Ideal S2048 .f32 := m ((c : Thread nD τ).loc main_arg1)
abbrev W (c : Dev nD) : FVec Ideal S2048x16400 .f32 := m ((c : Thread nD τ).loc main_arg2)
abbrev U (c : Dev nD) : FVec Ideal S32x2048x4096 .f32 := m ((c : Thread nD τ).loc main_arg3)

/-! ## The preparation -/

theorem idx0 : ∀ t : Fin cfg0.N, win0_0.index t = ![t.val * 1024 + (if t.val ≥ 6 then 16 else 0), 0] ∧ win0_1.index t = ![0, t.val] :=
  (by decide +kernel : ∀ t : Fin grid0.N, _)

/-- The weight, transposed. -/
def WT (c : Dev nD) : FVec Ideal S16400x2048 .f32 := transpose S16400x2048 [1, 0] (W m c) transposes_S2048x16400_S16400x2048_1_0

theorem WT_apply (c : Dev nD) (j : Fin 16400) (k : Fin 2048) : WT m c (ix2 j k) = W m c (ix2 k j) := by
  pointwise [WT]

theorem C1_v0 (c : Dev nD) : at_ (C1 m ρ) c main_v0 = WT m c := by
  show StableHlo.after hostOps0 (C0 m ρ c) (Proc.devRef .tc main_v0) = _
  simp only [hostOps0]
  after_results_simp
  rfl

/-- The element window's block at point `t` starts at the element offset its index map returns. -/
theorem elem (t : Fin cfg0.N) (x) (a : Fin 2) :
    ((((View.whole main_v0).slice (win0_0.rect t)).emb x) a : ℕ) = win0_0.index t a + 1 * (x a : ℕ) := rfl

/-- The weight without its low-rank columns. -/
def WP (c : Dev nD) : FVec Ideal S2048x16384 .bf16 := fun i => W m c (ix2 (i 0) (past (i 1)))

theorem prepBlk (c : Dev nD) (t : Fin cfg0.N) (j : Fin 1024) (k : Fin 2048) (C : Fin 16400)
    (hC : C.val = t.val * 1024 + (if t.val ≥ 6 then 16 else 0) + j.val) :
    blkOf0 (at_ (C1 m ρ)) c 0 t (ix2 j k) = W m c (ix2 k C) := by
  show at_ (C1 m ρ) c main_v0 (((View.whole main_v0).slice (win0_0.rect t)).emb (ix2 j k)) = _
  rw [C1_v0, ← WT_apply]
  congr 1
  refine (eq_ix2 _).trans ?_
  congr 1
  · refine Fin.ext ((elem t _ 0).trans ?_)
    rw [(idx0 t).1, hC]
    exact congrArg _ (Nat.one_mul _)
  · refine Fin.ext ((elem t _ 1).trans ?_)
    rw [(idx0 t).1]
    exact (Nat.zero_add _).trans (Nat.one_mul _)

theorem prepRow (t : Fin cfg0.N) (y : S2048x1024.Idx) :
    (((View.whole main_v1).slice (win0_1.rect t)).emb y 0 : ℕ) = (y 0 : ℕ) := by blk_simp [idx0 t]
theorem prepCol (t : Fin cfg0.N) (y : S2048x1024.Idx) :
    (((View.whole main_v1).slice (win0_1.rect t)).emb y 1 : ℕ) = t.val * 1024 + (y 1 : ℕ) := by blk_simp [idx0 t]

theorem prepPoint (c : Dev nD) (t : Fin cfg0.N) (k : Fin 2048) (j : Fin 1024) (C : Fin 16384)
    (hC : C.val = t.val * 1024 + j.val) :
    prepOut (F := Ideal) (blkOf0 (at_ (C1 m ρ)) c 0 t) (ix2 k j) = WP m c (ix2 k C) := by
  have ht : t.val < 16 := t.isLt
  have hj := j.isLt
  rw [ofPrep]
  refine prepBlk m ρ c t j k (past C) ?_
  show (if C.val < 6144 then C.val else C.val + 16) = _
  split <;> split <;> omega

theorem prepFinal (c : Dev nD) : (data0 (at_ (C1 m ρ)) c).arrAt 1 cfg0.N = WP m c := by
  refine (data0 (at_ (C1 m ρ)) c).arrAt_eq_of_covers 1 _ (by decide +kernel) fun t _ (y : S2048x1024.Idx) => ?_
  blk_simp
  rw [after0_1]
  have e : ((View.whole main_v1).slice (win0_1.rect t)).emb y
      = ix2 (y 0) (((View.whole main_v1).slice (win0_1.rect t)).emb y 1) := by
    refine (eq_ix2 _).trans ?_; congr 1; exact Fin.ext (prepRow t y)
  exact (congrArg _ (eq_ix2 y)).trans ((prepPoint m ρ c t (y 0) (y 1) _ (prepCol t y)).trans (congrArg _ e.symm))

/-! ## What the projection finds -/

theorem C5_x (c : Dev nD) : at_ (C5 m ρ) c main_arg0 = X m c :=
  (C5_of m ρ c main_arg0 (by decide)).trans ((C4_of m ρ c main_arg0 (by decide)).trans ((C3_of m ρ c main_arg0 (by decide)).trans
    ((C2_of m ρ c main_arg0 (by decide +kernel)).trans ((C1_of m ρ c main_arg0 (by decide)).trans rfl))))
theorem C4_arg1 (c : Dev nD) : at_ (C4 m ρ) c main_arg1 = G m c :=
  (C4_of m ρ c main_arg1 (by decide)).trans ((C3_of m ρ c main_arg1 (by decide)).trans
    ((C2_of m ρ c main_arg1 (by decide +kernel)).trans ((C1_of m ρ c main_arg1 (by decide)).trans rfl)))
theorem C4_arg3 (c : Dev nD) : at_ (C4 m ρ) c main_arg3 = U m c :=
  (C4_of m ρ c main_arg3 (by decide)).trans ((C3_of m ρ c main_arg3 (by decide)).trans
    ((C2_of m ρ c main_arg3 (by decide +kernel)).trans ((C1_of m ρ c main_arg3 (by decide)).trans rfl)))
theorem C5_w (c : Dev nD) : at_ (C5 m ρ) c main_v1 = WP m c :=
  (C5_of m ρ c main_v1 (by decide)).trans ((C4_of m ρ c main_v1 (by decide)).trans ((C3_of m ρ c main_v1 (by decide)).trans
    ((C2_arr m ρ c 1).trans (prepFinal m ρ c))))
theorem C2_v0 (c : Dev nD) : at_ (C2 m ρ) c main_v0 = WT m c :=
  (C2_of m ρ c main_v0 (by decide +kernel)).trans (C1_v0 m ρ c)

/-- The low-rank rows of the transposed weight, with rows of zeros below them. -/
def WA (c : Dev nD) : FVec Ideal S128x2048 .f32 :=
  pad S128x2048 ![0, 0] ![112, 0] ![0, 0] (extractStridedSlice S16x2048 ![6144, 0] (WT m c) slices_S16400x2048_S16x2048_6144_0)
    (sitofp .f32 (constantI S_ 32 0#32)) pads_S16x2048_S128x2048_01120_000 h_S_

theorem host_v2 (V : Valuation τ sig (Elt Ideal)) : StableHlo.after hostOps1 V (Proc.devRef .tc main_v2)
    = extractStridedSlice S16x2048 ![6144, 0] (V (Proc.devRef .tc main_v0)) slices_S16400x2048_S16x2048_6144_0 := by
  simp only [hostOps1]
  after_results_simp
theorem host_c (V : Valuation τ sig (Elt Ideal)) : StableHlo.after hostOps1 V (Proc.devRef .tc main_c) = constantI S_ 32 0#32 := by
  simp only [hostOps1]
  after_results_simp
theorem host_v3 (V : Valuation τ sig (Elt Ideal)) : StableHlo.after hostOps1_1 V (Proc.devRef .tc main_v3)
    = pad S128x2048 ![0, 0] ![112, 0] ![0, 0] (V (Proc.devRef .tc main_v2)) (sitofp (F := Ideal) .f32 (V (Proc.devRef .tc main_c)))
        pads_S16x2048_S128x2048_01120_000 h_S_ := by
  simp only [hostOps1_1, StableHlo.TRef.binary, StableHlo.TRef.unary, StableHlo.TRef.toBuf, StableHlo.TRef.ofBuf, cast_eq]
  after_results_simp
theorem host_v4 (V : Valuation τ sig (Elt Ideal)) : StableHlo.after hostOps1_2 V (Proc.devRef .tc main_v4)
    = shapeCast S1x2048 (V (Proc.devRef .tc main_arg1)) shapeCasts_S2048_S1x2048 := by
  simp only [hostOps1_2]
  after_results_simp
  rfl
theorem host_v5 (V : Valuation τ sig (Elt Ideal)) : StableHlo.after hostOps1_2 V (Proc.devRef .tc main_v5)
    = shapeCast S65536x4096 (V (Proc.devRef .tc main_arg3)) shapeCasts_S32x2048x4096_S65536x4096 := by
  simp only [hostOps1_2]
  after_results_simp
  rfl

theorem C3_v2 (c : Dev nD) : at_ (C3 m ρ) c main_v2
    = extractStridedSlice S16x2048 ![6144, 0] (WT m c) slices_S16400x2048_S16x2048_6144_0 :=
  (host_v2 (C2 m ρ c)).trans (congrArg (fun D => extractStridedSlice S16x2048 ![6144, 0] D slices_S16400x2048_S16x2048_6144_0) (C2_v0 m ρ c))
theorem C5_a (c : Dev nD) : at_ (C5 m ρ) c main_v3 = WA m c :=
  (C5_of m ρ c main_v3 (by decide)).trans ((host_v3 (C3 m ρ c)).trans
    (congrArg₂ (fun D E => pad S128x2048 ![0, 0] ![112, 0] ![0, 0] D (sitofp (F := Ideal) .f32 E) pads_S16x2048_S128x2048_01120_000 h_S_)
      (C3_v2 m ρ c) (host_c (C2 m ρ c))))
theorem C5_g (c : Dev nD) : at_ (C5 m ρ) c main_v4 = shapeCast S1x2048 (G m c) shapeCasts_S2048_S1x2048 :=
  (host_v4 (C4 m ρ c)).trans (congrArg (fun D => shapeCast S1x2048 D shapeCasts_S2048_S1x2048) (C4_arg1 m ρ c))
/-- The expert weights, row after row. -/
def US (c : Dev nD) : FVec Ideal S65536x4096 .f32 := shapeCast S65536x4096 (U m c) shapeCasts_S32x2048x4096_S65536x4096
theorem C5_u (c : Dev nD) : at_ (C5 m ρ) c main_v5 = US m c :=
  (host_v5 (C4 m ρ c)).trans (congrArg (fun D => shapeCast S65536x4096 D shapeCasts_S32x2048x4096_S65536x4096) (C4_arg3 m ρ c))

theorem WA_in (c : Dev nD) (q : Fin 128) (h : q.val < 16) (l : Fin 2048) :
    WA m c (ix2 q l) = W m c (ix2 l ⟨6144 + q.val, by omega⟩) := by
  unfold WA
  rw [← WT_apply]
  generalize WT m c = D
  pointwise
  rw [dif_pos h]
theorem WA_out (c : Dev nD) (q : Fin 128) (h : ¬ q.val < 16) (l : Fin 2048) : WA m c (ix2 q l) = 0 := by
  unfold WA
  generalize WT m c = D
  pointwise
  rw [dif_neg h, Cert.ReferenceIdeal.Value.proj_zero]

/-! ## The projection's blocks -/

theorem idx1 : ∀ t : Fin cfg1.N, win1_0.index t = ![t.val / 16, 0] ∧ win1_1.index t = ![0, 0] ∧ win1_2.index t = ![0, t.val % 16]
    ∧ win1_3.index t = ![0, 0] ∧ win1_4.index t = ![t.val, 0] ∧ win1_5.index t = ![t.val / 16, t.val % 16]
    ∧ win1_6.index t = ![t.val / 16, 0] ∧ win1_7.index t = ![t.val, 0] :=
  (by decide +kernel : ∀ t : Fin grid1.N, _)

section Blocks
variable (c : Dev nD) (t : Fin cfg1.N)

theorem b0 (r : Fin 1024) (R : Fin 16384) (hR : R.val = t.val / 16 * 1024 + r.val) (l : Fin 2048) :
    blkOf1 (at_ (C5 m ρ)) c 0 t (ix2 r l) = X m c (ix2 R l) := by
  show at_ (C5 m ρ) c main_arg0 (((View.whole main_arg0).slice (win1_0.rect t)).emb (ix2 r l)) = _
  rw [C5_x]
  blk_point [idx1 t, hR]
theorem b1 (l : Fin 2048) : blkOf1 (at_ (C5 m ρ)) c 1 t (ix2 0 l) = G m c (ix1 l) := by
  have e : blkOf1 (at_ (C5 m ρ)) c 1 t (ix2 0 l) = at_ (C5 m ρ) c main_v4 (ix2 0 l) := by
    show at_ (C5 m ρ) c main_v4 (((View.whole main_v4).slice (win1_1.rect t)).emb (ix2 0 l)) = _
    blk_point [idx1 t]
  rw [e, C5_g]; pointwise
theorem b2 (l : Fin 2048) (j : Fin 1024) (C : Fin 16384) (hC : C.val = t.val % 16 * 1024 + j.val) :
    blkOf1 (at_ (C5 m ρ)) c 2 t (ix2 l j) = W m c (ix2 l (past C)) := by
  have e : blkOf1 (at_ (C5 m ρ)) c 2 t (ix2 l j) = WP m c (ix2 l C) := by
    show at_ (C5 m ρ) c main_v1 (((View.whole main_v1).slice (win1_2.rect t)).emb (ix2 l j)) = _
    rw [C5_w]
    generalize WP m c = D
    blk_point [idx1 t, hC]
  exact e
theorem b3 (q : Fin 128) (l : Fin 2048) : blkOf1 (at_ (C5 m ρ)) c 3 t (ix2 q l) = WA m c (ix2 q l) := by
  show at_ (C5 m ρ) c main_v3 (((View.whole main_v3).slice (win1_3.rect t)).emb (ix2 q l)) = _
  rw [C5_a]
  generalize WA m c = D
  blk_point [idx1 t]
theorem b4 (r : Fin 256) (R : Fin 65536) (hR : R.val = t.val * 256 + r.val) (j : Fin 4096) :
    blkOf1 (at_ (C5 m ρ)) c 4 t (ix2 r j) = US m c (ix2 R j) := by
  show at_ (C5 m ρ) c main_v5 (((View.whole main_v5).slice (win1_4.rect t)).emb (ix2 r j)) = _
  rw [C5_u]
  generalize US m c = D
  blk_point [idx1 t, hR]

end Blocks

/-! ## The three results -/

/-- The reference's terms of the kernel's arguments. -/
abbrev resP (c : Dev nD) : FVec Ideal S16384x16384 .bf16 := Cert.ReferenceIdeal.Value.REF_p (X m c) (G m c) (W m c)
abbrev resA (c : Dev nD) : FVec Ideal S16384x128 .f32 := Cert.ReferenceIdeal.Value.REF_a (X m c) (G m c) (W m c)
abbrev resU (c : Dev nD) : FVec Ideal S65536x4096 .bf16 := Cert.ReferenceIdeal.Value.REF_u (U m c)

theorem starts (t : Fin cfg1.N) : (rowStart t).val / 16 = t.val / 16 := by
  show t.val / 16 * 16 / 16 = t.val / 16
  omega

theorem keptBlk (c : Dev nD) (t : Fin cfg1.N) (r : Fin 1024) (R : Fin 16384) (hR : R.val = t.val / 16 * 1024 + r.val) (l : Fin 2048) :
    kept (at_ (C5 m ρ)) c t (ix2 r l) = nrow (fun l => X m c (ix2 R l)) (X m c (ix2 R l)) (G m c (ix1 l)) := by
  unfold kept
  rw [ofNorm]
  have hR' : R.val = (rowStart t).val / 16 * 1024 + r.val := by rw [starts]; exact hR
  exact nrow_congr (b0 m ρ c (rowStart t) r R hR') (b0 m ρ c (rowStart t) r R hR' l) (b1 m ρ c (rowStart t) l)

theorem pointP (c : Dev nD) (t : Fin cfg1.N) (r j : Fin 1024) (R C : Fin 16384) (hR : R.val = t.val / 16 * 1024 + r.val)
    (hC : C.val = t.val % 16 * 1024 + j.val) :
    tileOut (F := Ideal) (kept (at_ (C5 m ρ)) c t) (blkOf1 (at_ (C5 m ρ)) c 2 t) (ix2 r j) = resP m c (ix2 R C) := by
  refine (ofTile _ _ r j).trans (Eq.trans ?_ (Cert.ReferenceIdeal.Value.ofRef_p _ _ _ R C).symm)
  exact Finset.sum_congr rfl fun l _ => congrArg₂ (fun a b : EReal => a * b) (keptBlk m ρ c t r R hR l) (b2 m ρ c t l j C hC)

theorem pointA (c : Dev nD) (t : Fin cfg1.N) (r : Fin 1024) (q : Fin 128) (R : Fin 16384) (hR : R.val = t.val / 16 * 1024 + r.val) :
    low (at_ (C5 m ρ)) c t (ix2 r q) = resA m c (ix2 R q) := by
  unfold low
  rw [ofLow]
  refine Eq.trans ?_ (Cert.ReferenceIdeal.Value.ofRef_a _ _ _ R q).symm
  have hR' : R.val = (rowStart t).val / 16 * 1024 + r.val := by rw [starts]; exact hR
  split
  · rename_i h
    exact proj_congr (b0 m ρ c (rowStart t) r R hR') (b1 m ρ c (rowStart t))
      (fun l => (b3 m ρ c (rowStart t) q l).trans (WA_in m c q h l))
  · rename_i h
    unfold proj
    refine Finset.sum_eq_zero fun l _ => ?_
    beta_reduce
    rw [b3, WA_out m c q h l, mul_zero]

theorem pointU (c : Dev nD) (t : Fin cfg1.N) (r : Fin 256) (j : Fin 4096) (R : Fin 65536) (hR : R.val = t.val * 256 + r.val) :
    sideOut (blkOf1 (at_ (C5 m ρ)) c 4 t) (ix2 r j) = resU m c (ix2 R j) := by
  rw [ofSide, b4 m ρ c t r R hR j]
  rfl

theorem row5 (t : Fin cfg1.N) (y : S1024x1024.Idx) :
    (((View.whole main_v6_0).slice (win1_5.rect t)).emb y 0 : ℕ) = t.val / 16 * 1024 + (y 0 : ℕ) := by blk_simp [idx1 t]
theorem col5 (t : Fin cfg1.N) (y : S1024x1024.Idx) :
    (((View.whole main_v6_0).slice (win1_5.rect t)).emb y 1 : ℕ) = t.val % 16 * 1024 + (y 1 : ℕ) := by blk_simp [idx1 t]
theorem row6 (t : Fin cfg1.N) (y : S1024x128.Idx) :
    (((View.whole main_v6_1).slice (win1_6.rect t)).emb y 0 : ℕ) = t.val / 16 * 1024 + (y 0 : ℕ) := by blk_simp [idx1 t]
theorem col6 (t : Fin cfg1.N) (y : S1024x128.Idx) :
    (((View.whole main_v6_1).slice (win1_6.rect t)).emb y 1 : ℕ) = (y 1 : ℕ) := by blk_simp [idx1 t]
theorem row7 (t : Fin cfg1.N) (y : S256x4096.Idx) :
    (((View.whole main_v6_2).slice (win1_7.rect t)).emb y 0 : ℕ) = t.val * 256 + (y 0 : ℕ) := by blk_simp [idx1 t]
theorem col7 (t : Fin cfg1.N) (y : S256x4096.Idx) :
    (((View.whole main_v6_2).slice (win1_7.rect t)).emb y 1 : ℕ) = (y 1 : ℕ) := by blk_simp [idx1 t]

theorem finalP (c : Dev nD) : (data1 (at_ (C5 m ρ)) c).arrAt 5 cfg1.N = resP m c := by
  refine (data1 (at_ (C5 m ρ)) c).arrAt_eq_of_covers 5 _ (by decide +kernel) fun t _ (y : S1024x1024.Idx) => ?_
  blk_simp
  rw [after1_5]
  exact (congrArg _ (eq_ix2 y)).trans ((pointP m ρ c t (y 0) (y 1) _ _ (row5 t y) (col5 t y)).trans
    (congrArg _ (eq_ix2 (((View.whole main_v6_0).slice (win1_5.rect t)).emb y)).symm))

theorem finalA (c : Dev nD) : (data1 (at_ (C5 m ρ)) c).arrAt 6 cfg1.N = resA m c := by
  refine (data1 (at_ (C5 m ρ)) c).arrAt_eq_of_covers 6 _ (by decide +kernel) fun t _ (y : S1024x128.Idx) => ?_
  blk_simp
  rw [after1_6]
  have e : ((View.whole main_v6_1).slice (win1_6.rect t)).emb y
      = ix2 (((View.whole main_v6_1).slice (win1_6.rect t)).emb y 0) (y 1) := by
    refine (eq_ix2 _).trans ?_; congr 1; exact Fin.ext (col6 t y)
  exact (congrArg _ (eq_ix2 y)).trans ((pointA m ρ c t (y 0) (y 1) _ (row6 t y)).trans (congrArg _ e.symm))

theorem finalU (c : Dev nD) : (data1 (at_ (C5 m ρ)) c).arrAt 7 cfg1.N = resU m c := by
  refine (data1 (at_ (C5 m ρ)) c).arrAt_eq_of_covers 7 _ (by decide +kernel) fun t _ (y : S256x4096.Idx) => ?_
  blk_simp
  rw [after1_7]
  have e : ((View.whole main_v6_2).slice (win1_7.rect t)).emb y
      = ix2 (((View.whole main_v6_2).slice (win1_7.rect t)).emb y 0) (y 1) := by
    refine (eq_ix2 _).trans ?_; congr 1; exact Fin.ext (col7 t y)
  exact (congrArg _ (eq_ix2 y)).trans ((pointU m ρ c t (y 0) (y 1) _ (row7 t y)).trans (congrArg _ e.symm))

end Cert.KernelIdeal.Value

end
-- ==== Proof.MergeValue.lean ====
/- What `merge` leaves in its result: the two branches' projections, gated, mixed and added to the residual. The
   convolution's two earlier rows come from the block itself, or from a small window ending where the block begins. -/
module

public import proofs.«01_k».proof.Proof.Gen.MergeIdeal.Frame
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace MergeSpec

/-- One entry of the result: `x` the residual, `g1`, `g2` the gates' logits, `A`, `B` the two branches' rows. -/
def outer (x : EReal) (g1 g2 A B : Fin 2048 → EReal) (W1 W2 : Fin 2048 → Fin 2048 → EReal) (w3 : Fin 2048 → EReal) : EReal :=
  x + ∑ j, (Ideal.div 1 (1 + Ideal.exp (0 - g1 j)) * (∑ l, A l * W1 l j)
    + Ideal.div 1 (1 + Ideal.exp (0 - g2 j)) * ∑ l, B l * W2 l j) * w3 j

/-- One entry of the gated convolution: gate, three taps, bias. -/
def conv (g w0 w1 w2 b u0 u1 u2 : EReal) : EReal := g * (w0 * u2 + w1 * u1 + w2 * u0 + b)

/-- The convolution's input, and that input some rows earlier: nothing before the first row. -/
def u (a1 : Fin 16384 → Fin 16384 → EReal) (R : Fin 16384) (l : Fin 2048) : EReal :=
  a1 R ⟨8192 + l.val, by omega⟩ * a1 R ⟨10240 + l.val, by omega⟩
def back (a1 : Fin 16384 → Fin 16384 → EReal) (n : Nat) (R : Fin 16384) (l : Fin 2048) : EReal :=
  if h : n ≤ R.val then u a1 ⟨R.val - n, by omega⟩ l else 0

end MergeSpec

namespace Cert.MergeRefIdeal.Value
open Cert.MergeRefIdeal Cert.MergeRefIdeal.Gen MergeSpec

/-- The reference's result of its arguments. -/
def REF (a0 : FVec Ideal S16384x2048 .bf16) (a1 : FVec Ideal S16384x16384 .bf16) (a2 : FVec Ideal S3x2048 .f32)
    (a3 : FVec Ideal S2048 .f32) (a4 a5 a6 : FVec Ideal S2048x2048 .f32) (a7 : FVec Ideal S16384x2048 .f32) :
    FVec Ideal S16384x2048 .f32 :=
  addf a7 (Host.dotGeneral dot_S16384x2048_S2048x2048_S16384x2048_1_0_0_1_n_n none (addf (mulf (Host.divf (broadcastInDim
    S16384x2048 ![] bcast_S_S16384x2048 (constant S_ .f32 0x3F800000#32)) (addf (broadcastInDim S16384x2048 ![]
    bcast_S_S16384x2048 (constant S_ .f32 0x3F800000#32)) (Host.exp (Host.negf (extractStridedSlice S16384x2048 ![0, 12288]
    (extf .f32 a1 bitsLt_bf16_f32) slices_S16384x16384_S16384x2048_0_12288))))) (Host.dotGeneral
    dot_S16384x2048_S2048x2048_S16384x2048_1_0_0_1_n_n none (extf .f32 a0 bitsLt_bf16_f32) a4)) (mulf (Host.divf
    (broadcastInDim S16384x2048 ![] bcast_S_S16384x2048 (constant S_ .f32 0x3F800000#32)) (addf (broadcastInDim S16384x2048
    ![] bcast_S_S16384x2048 (constant S_ .f32 0x3F800000#32)) (Host.exp (Host.negf (extractStridedSlice S16384x2048 ![0,
    14336] (extf .f32 a1 bitsLt_bf16_f32) slices_S16384x16384_S16384x2048_0_14336))))) (Host.dotGeneral
    dot_S16384x2048_S2048x2048_S16384x2048_1_0_0_1_n_n none (mulf (extractStridedSlice S16384x2048 ![0, 6144] (extf .f32 a1
    bitsLt_bf16_f32) slices_S16384x16384_S16384x2048_0_6144) (addf (addf (addf (mulf (extractStridedSlice S16384x2048 ![0, 0]
    (pad S16386x2048 ![2, 0] ![0, 0] ![0, 0] (mulf (extractStridedSlice S16384x2048 ![0, 8192] (extf .f32 a1 bitsLt_bf16_f32)
    slices_S16384x16384_S16384x2048_0_8192) (extractStridedSlice S16384x2048 ![0, 10240] (extf .f32 a1 bitsLt_bf16_f32)
    slices_S16384x16384_S16384x2048_0_10240)) (sitofp .f32 (constantI S_ 32 0#32)) pads_S16384x2048_S16386x2048_200_000 h_S_)
    slices_S16386x2048_S16384x2048_0_0) (broadcastInDim S16384x2048 ![0, 1] bcast_S1x2048_S16384x2048_0_1 (broadcastInDim
    S1x2048 ![1] bcast_S2048_S1x2048_1 (shapeCast _ (extractStridedSlice S1x2048 ![0, 0] a2 slices_S3x2048_S1x2048_0_0)
    shapeCasts_S1x2048_S2048)))) (mulf (extractStridedSlice S16384x2048 ![1, 0] (pad S16386x2048 ![2, 0] ![0, 0] ![0, 0]
    (mulf (extractStridedSlice S16384x2048 ![0, 8192] (extf .f32 a1 bitsLt_bf16_f32) slices_S16384x16384_S16384x2048_0_8192)
    (extractStridedSlice S16384x2048 ![0, 10240] (extf .f32 a1 bitsLt_bf16_f32) slices_S16384x16384_S16384x2048_0_10240))
    (sitofp .f32 (constantI S_ 32 0#32)) pads_S16384x2048_S16386x2048_200_000 h_S_) slices_S16386x2048_S16384x2048_1_0)
    (broadcastInDim S16384x2048 ![0, 1] bcast_S1x2048_S16384x2048_0_1 (broadcastInDim S1x2048 ![1] bcast_S2048_S1x2048_1
    (shapeCast _ (extractStridedSlice S1x2048 ![1, 0] a2 slices_S3x2048_S1x2048_1_0) shapeCasts_S1x2048_S2048))))) (mulf
    (extractStridedSlice S16384x2048 ![2, 0] (pad S16386x2048 ![2, 0] ![0, 0] ![0, 0] (mulf (extractStridedSlice S16384x2048
    ![0, 8192] (extf .f32 a1 bitsLt_bf16_f32) slices_S16384x16384_S16384x2048_0_8192) (extractStridedSlice S16384x2048 ![0,
    10240] (extf .f32 a1 bitsLt_bf16_f32) slices_S16384x16384_S16384x2048_0_10240)) (sitofp .f32 (constantI S_ 32 0#32))
    pads_S16384x2048_S16386x2048_200_000 h_S_) slices_S16386x2048_S16384x2048_2_0) (broadcastInDim S16384x2048 ![0, 1]
    bcast_S1x2048_S16384x2048_0_1 (broadcastInDim S1x2048 ![1] bcast_S2048_S1x2048_1 (shapeCast _ (extractStridedSlice
    S1x2048 ![2, 0] a2 slices_S3x2048_S1x2048_2_0) shapeCasts_S1x2048_S2048))))) (broadcastInDim S16384x2048 ![0, 1]
    bcast_S1x2048_S16384x2048_0_1 (broadcastInDim S1x2048 ![1] bcast_S2048_S1x2048_1 a3)))) a5))) a6)

theorem sitofp_zero : (FloatOps.sitofp .f32 0#32 : Ideal .f32) = 0 := by
  show ((((0#32 : BitVec 32).toInt : ℝ)) : EReal) = 0
  simp

theorem ofRef (a0 : FVec Ideal S16384x2048 .bf16) (a1 : FVec Ideal S16384x16384 .bf16) (a2 : FVec Ideal S3x2048 .f32)
    (a3 : FVec Ideal S2048 .f32) (a4 a5 a6 : FVec Ideal S2048x2048 .f32) (a7 : FVec Ideal S16384x2048 .f32)
    (R : Fin 16384) (k : Fin 2048) :
    REF a0 a1 a2 a3 a4 a5 a6 a7 (ix2 R k)
      = outer (a7 (ix2 R k)) (fun j => a1 (ix2 R ⟨12288 + j.val, by omega⟩)) (fun j => a1 (ix2 R ⟨14336 + j.val, by omega⟩))
          (fun l => a0 (ix2 R l))
          (fun l => conv (a1 (ix2 R ⟨6144 + l.val, by omega⟩)) (a2 (ix2 0 l)) (a2 (ix2 1 l)) (a2 (ix2 2 l)) (a3 (ix1 l))
            (u (fun R k => a1 (ix2 R k)) R l) (back (fun R k => a1 (ix2 R k)) 1 R l) (back (fun R k => a1 (ix2 R k)) 2 R l))
          (fun l j => a4 (ix2 l j)) (fun l j => a5 (ix2 l j)) (fun j => a6 (ix2 j k)) := by
  pointwise [REF]
  unfold outer
  refine congrArg (_ + ·) (Finset.sum_congr rfl fun j _ => congrArg (· * _) (congrArg₂ (· + ·) ?_ ?_))
  · rw [zero_sub]
  · rw [zero_sub]
    refine congrArg (_ * ·) (Finset.sum_congr rfl fun l _ => congrArg (· * _) ?_)
    unfold conv
    refine congrArg (_ * ·) (congrArg (· + _) (congrArg₂ (· + ·) (congrArg₂ (· + ·) ?_ ?_) (mul_comm _ _)))
    · refine (mul_comm _ _).trans (congrArg (_ * ·) ?_)
      unfold back u
      have := R.isLt
      split
      · rename_i h; rw [dif_pos h.1]
      · rename_i h; rw [dif_neg (by omega), sitofp_zero]
    · refine (mul_comm _ _).trans (congrArg (_ * ·) ?_)
      unfold back u
      have := R.isLt
      split
      · rename_i h
        rw [dif_pos (by omega : 1 ≤ R.val)]
        have e : (⟨1 + R.val - 2, by omega⟩ : Fin 16384) = ⟨R.val - 1, by omega⟩ := Fin.ext (by show 1 + R.val - 2 = R.val - 1; omega)
        rw [e]
      · rename_i h; rw [dif_neg (by omega), sitofp_zero]

end Cert.MergeRefIdeal.Value

namespace Cert.MergeIdeal.Value
open Cert.MergeIdeal Cert.MergeIdeal.Gen MergeSpec

variable (m : (ℓ : Loc nD τ sig) → Buf (Elt Ideal) ℓ)

theorem ofBlocks (i : grid0.Coords) (x0 x1 x2 x3 x8 x9 : Vec Ideal S256x2048 .bf16) (x4 x5 : Vec Ideal S16x2048 .bf16)
    (x6 : Vec Ideal S8x2048 .f32) (x7 : Vec Ideal S1x2048 .f32) (x10 x11 x12 : Vec Ideal S2048x2048 .bf16)
    (x13 : Vec Ideal S256x2048 .f32) (r : Fin 256) (k : Fin 2048) :
    out0_14 i x0 x1 x2 x3 x4 x5 x6 x7 x8 x9 x10 x11 x12 x13 (ix2 r k)
      = outer (x13 (ix2 r k)) (fun j => x8 (ix2 r j)) (fun j => x9 (ix2 r j)) (fun l => x0 (ix2 r l))
          (fun l => conv (x1 (ix2 r l)) (x6 (ix2 0 l)) (x6 (ix2 1 l)) (x6 (ix2 2 l)) (x7 (ix2 0 l)) (k0_pay2 x2 x3 (ix2 r l))
            (k0_pay4 i x2 x3 x4 x5 (ix2 r l)) (k0_pay5 i x2 x3 x4 x5 (ix2 r l)))
          (fun l j => x10 (ix2 l j)) (fun l j => x11 (ix2 l j)) (fun j => x12 (ix2 j k)) := by
  unfold out0_14
  frame_out
  pointwise [k0_pay1, k0_pay7, k0_pay6, k0_pay8, k0_pay9]
  rfl

theorem pay2 (x2 x3 : Vec Ideal S256x2048 .bf16) (r : Fin 256) (k : Fin 2048) :
    k0_pay2 x2 x3 (ix2 r k) = x2 (ix2 r k) * x3 (ix2 r k) := by
  pointwise [k0_pay2]

/-- A comparison of two small words, as a choice. -/
theorem pick {α : Type} (n k : Nat) (hn : n < 2 ^ 32) (hk : k < 2 ^ 32) (a b : α) :
    Scalar.select (IntOp.cmpi .eq (BitVec.ofNat 32 n) (BitVec.ofNat 32 k)) a b = if n = k then a else b := by
  unfold Scalar.select IntOp.cmpi
  have e : (BitVec.ofNat 32 n == BitVec.ofNat 32 k) = decide (n = k) := by
    rw [Bool.eq_iff_iff, beq_iff_eq, decide_eq_true_iff]
    constructor
    · intro h
      have := congrArg BitVec.toNat h
      rwa [BitVec.toNat_ofNat, BitVec.toNat_ofNat, Nat.mod_eq_of_lt hn, Nat.mod_eq_of_lt hk] at this
    · intro h; rw [h]
  by_cases h : n = k <;> simp [h, e]

theorem pay4 (i : grid0.Coords) (x2 x3 : Vec Ideal S256x2048 .bf16) (x4 x5 : Vec Ideal S16x2048 .bf16) (r : Fin 256) (k : Fin 2048) :
    k0_pay4 i x2 x3 x4 x5 (ix2 r k)
      = if r.val = 0 then if (i 0).val = 0 then 0 else x4 (ix2 15 k) * x5 (ix2 15 k)
        else x2 (ix2 ⟨(r.val + 256 - 1) % 256, Nat.mod_lt _ (by omega)⟩ k) * x3 (ix2 ⟨(r.val + 256 - 1) % 256, Nat.mod_lt _ (by omega)⟩ k) := by
  pointwise [k0_pay4, k0_pay3, k0_pay2]
  have := r.isLt; have : (i 0).val < 64 := (i 0).isLt
  exact (pick _ 0 (by omega) (by omega) _ _).trans (congrArg (ite _ · _) (pick _ 0 (by omega) (by omega) _ _))

theorem pay5 (i : grid0.Coords) (x2 x3 : Vec Ideal S256x2048 .bf16) (x4 x5 : Vec Ideal S16x2048 .bf16) (r : Fin 256) (k : Fin 2048) :
    k0_pay5 i x2 x3 x4 x5 (ix2 r k)
      = if r.val = 0 then if (i 0).val = 0 then 0 else x4 (ix2 14 k) * x5 (ix2 14 k)
        else if r.val = 1 then if (i 0).val = 0 then 0 else x4 (ix2 15 k) * x5 (ix2 15 k)
        else x2 (ix2 ⟨(r.val + 256 - 2) % 256, Nat.mod_lt _ (by omega)⟩ k) * x3 (ix2 ⟨(r.val + 256 - 2) % 256, Nat.mod_lt _ (by omega)⟩ k) := by
  pointwise [k0_pay5, k0_pay3, k0_pay2]
  have := r.isLt; have : (i 0).val < 64 := (i 0).isLt
  exact (pick _ 0 (by omega) (by omega) _ _).trans (congrArg₂ (ite _) (pick _ 0 (by omega) (by omega) _ _)
    ((pick _ 1 (by omega) (by omega) _ _).trans (congrArg (ite _ · _) (pick _ 0 (by omega) (by omega) _ _))))

/-! ## Where each window's block lies -/

theorem idx : ∀ t : Fin cfg0.N, (win0_0.index t = ![t.val, 0] ∧ win0_1.index t = ![t.val, 3] ∧ win0_2.index t = ![t.val, 4]
    ∧ win0_3.index t = ![t.val, 5] ∧ win0_4.index t = ![t.val * 16 - 1, 4] ∧ win0_5.index t = ![t.val * 16 - 1, 5])
    ∧ win0_6.index t = ![0, 0] ∧ win0_7.index t = ![0, 0] ∧ win0_8.index t = ![t.val, 6] ∧ win0_9.index t = ![t.val, 7]
    ∧ win0_10.index t = ![0, 0] ∧ win0_11.index t = ![0, 0] ∧ win0_12.index t = ![0, 0] ∧ win0_13.index t = ![t.val, 0]
    ∧ win0_14.index t = ![t.val, 0] :=
  (by decide +kernel : ∀ t : Fin grid0.N, _)

theorem coord : ∀ t : Fin cfg0.N, (grid0.coords t 0 : ℕ) = t.val :=
  (by decide +kernel : ∀ t : Fin grid0.N, _)

section Blocks
variable (c : Dev nD) (t : Fin cfg0.N) (r : Fin 256) (R : Fin 16384) (hR : R.val = t.val * 256 + r.val)
include hR

theorem b0 (l : Fin 2048) : iblk m c 0 t (ix2 r l) = m ((c : Thread nD τ).loc main_arg0) (ix2 R l) := by
  blk_point [iblk, V, idx t, hR]
theorem b1 (l : Fin 2048) : iblk m c 1 t (ix2 r l) = m ((c : Thread nD τ).loc main_arg1) (ix2 R ⟨6144 + l.val, by omega⟩) := by
  blk_point [iblk, V, idx t, hR]
theorem b2 (l : Fin 2048) : iblk m c 2 t (ix2 r l) = m ((c : Thread nD τ).loc main_arg1) (ix2 R ⟨8192 + l.val, by omega⟩) := by
  blk_point [iblk, V, idx t, hR]
theorem b3 (l : Fin 2048) : iblk m c 3 t (ix2 r l) = m ((c : Thread nD τ).loc main_arg1) (ix2 R ⟨10240 + l.val, by omega⟩) := by
  blk_point [iblk, V, idx t, hR]
theorem b8 (l : Fin 2048) : iblk m c 8 t (ix2 r l) = m ((c : Thread nD τ).loc main_arg1) (ix2 R ⟨12288 + l.val, by omega⟩) := by
  blk_point [iblk, V, idx t, hR]
theorem b9 (l : Fin 2048) : iblk m c 9 t (ix2 r l) = m ((c : Thread nD τ).loc main_arg1) (ix2 R ⟨14336 + l.val, by omega⟩) := by
  blk_point [iblk, V, idx t, hR]
theorem b13 (l : Fin 2048) : iblk m c 13 t (ix2 r l) = m ((c : Thread nD τ).loc main_arg7) (ix2 R l) := by
  blk_point [iblk, V, idx t, hR]

end Blocks

section Halo
variable (c : Dev nD) (t : Fin cfg0.N) (r : Fin 16) (R : Fin 16384) (hR : R.val = (t.val * 16 - 1) * 16 + r.val)
include hR

theorem b4 (l : Fin 2048) : iblk m c 4 t (ix2 r l) = m ((c : Thread nD τ).loc main_arg1) (ix2 R ⟨8192 + l.val, by omega⟩) := by
  blk_point [iblk, V, idx t, hR]
theorem b5 (l : Fin 2048) : iblk m c 5 t (ix2 r l) = m ((c : Thread nD τ).loc main_arg1) (ix2 R ⟨10240 + l.val, by omega⟩) := by
  blk_point [iblk, V, idx t, hR]

end Halo

/-- What the host makes of the taps: five rows of zeros below them. -/
def taps (a : FVec Ideal S3x2048 .f32) : FVec Ideal S8x2048 .f32 :=
  pad S8x2048 ![0, 0] ![5, 0] ![0, 0] a (sitofp .f32 (constantI S_ 32 0#32)) pads_S3x2048_S8x2048_050_000 h_S_
/-- What it makes of a weight. -/
def small (a : FVec Ideal S2048x2048 .f32) : FVec Ideal S2048x2048 .bf16 := truncf .bf16 a bitsLt_bf16_f32

section Host
variable (c : Dev nD) (t : Fin cfg0.N)

theorem entry_w : V m c main_v0 = taps (m ((c : Thread nD τ).loc main_arg2)) := by
  entry_read; rfl
theorem entry_b : V m c main_v1 = shapeCast S1x2048 (m ((c : Thread nD τ).loc main_arg3)) shapeCasts_S2048_S1x2048 := by
  entry_read; rfl
theorem entry_2 : V m c main_v2 = small (m ((c : Thread nD τ).loc main_arg4)) := by
  entry_read; rfl
theorem entry_3 : V m c main_v3 = small (m ((c : Thread nD τ).loc main_arg5)) := by
  entry_read; rfl
theorem entry_4 : V m c main_v4 = small (m ((c : Thread nD τ).loc main_arg6)) := by
  entry_read; rfl

/-- Windows 6, 7 and 10 to 12 stage their whole arrays. -/
theorem whole6 (y : S8x2048.Idx) : iblk m c 6 t y = V m c main_v0 y := by
  blk_point [iblk, idx t]
theorem whole7 (y : S1x2048.Idx) : iblk m c 7 t y = V m c main_v1 y := by
  blk_point [iblk, idx t]
theorem whole10 (y : S2048x2048.Idx) : iblk m c 10 t y = V m c main_v2 y := by
  blk_point [iblk, idx t]
theorem whole11 (y : S2048x2048.Idx) : iblk m c 11 t y = V m c main_v3 y := by
  blk_point [iblk, idx t]
theorem whole12 (y : S2048x2048.Idx) : iblk m c 12 t y = V m c main_v4 y := by
  blk_point [iblk, idx t]

theorem b6 (q : Fin 8) (hq : q.val < 3) (l : Fin 2048) :
    iblk m c 6 t (ix2 q l) = m ((c : Thread nD τ).loc main_arg2) (ix2 ⟨q.val, hq⟩ l) := by
  rw [whole6, entry_w]
  unfold taps
  pointwise
  rw [dif_pos hq]
theorem b7 (l : Fin 2048) : iblk m c 7 t (ix2 0 l) = m ((c : Thread nD τ).loc main_arg3) (ix1 l) := by
  rw [whole7, entry_b]; pointwise
theorem b10 (l j : Fin 2048) : iblk m c 10 t (ix2 l j) = m ((c : Thread nD τ).loc main_arg4) (ix2 l j) := by
  rw [whole10, entry_2]; pointwise [small]
theorem b11 (l j : Fin 2048) : iblk m c 11 t (ix2 l j) = m ((c : Thread nD τ).loc main_arg5) (ix2 l j) := by
  rw [whole11, entry_3]; pointwise [small]
theorem b12 (l j : Fin 2048) : iblk m c 12 t (ix2 l j) = m ((c : Thread nD τ).loc main_arg6) (ix2 l j) := by
  rw [whole12, entry_4]; pointwise [small]

end Host

/-- The convolution's input of the whole array. -/
abbrev A1 (c : Dev nD) : Fin 16384 → Fin 16384 → EReal := fun R k => m ((c : Thread nD τ).loc main_arg1) (ix2 R k)

section Rows
variable (c : Dev nD) (t : Fin cfg0.N) (r : Fin 256) (R : Fin 16384) (hR : R.val = t.val * 256 + r.val) (l : Fin 2048)
include hR

theorem row0 : k0_pay2 (iblk m c 2 t) (iblk m c 3 t) (ix2 r l) = u (A1 m c) R l := by
  rw [pay2, b2 m c t r R hR, b3 m c t r R hR]; rfl

theorem row1 : k0_pay4 (grid0.coords t) (iblk m c 2 t) (iblk m c 3 t) (iblk m c 4 t) (iblk m c 5 t) (ix2 r l) = back (A1 m c) 1 R l := by
  have ht : t.val < 64 := t.isLt
  have hr := r.isLt
  rw [pay4, coord]
  unfold back
  split
  · split
    · rw [dif_neg (by omega)]
    · rw [dif_pos (by omega), b4 m c t 15 ⟨R.val - 1, by omega⟩ (by show R.val - 1 = (t.val * 16 - 1) * 16 + 15; omega),
        b5 m c t 15 ⟨R.val - 1, by omega⟩ (by show R.val - 1 = (t.val * 16 - 1) * 16 + 15; omega)]
      rfl
  · rw [dif_pos (by omega), b2 m c t _ ⟨R.val - 1, by omega⟩ (by show R.val - 1 = t.val * 256 + (r.val + 256 - 1) % 256; omega),
      b3 m c t _ ⟨R.val - 1, by omega⟩ (by show R.val - 1 = t.val * 256 + (r.val + 256 - 1) % 256; omega)]
    rfl

theorem row2 : k0_pay5 (grid0.coords t) (iblk m c 2 t) (iblk m c 3 t) (iblk m c 4 t) (iblk m c 5 t) (ix2 r l) = back (A1 m c) 2 R l := by
  have ht : t.val < 64 := t.isLt
  have hr := r.isLt
  rw [pay5, coord]
  unfold back
  split
  · split
    · rw [dif_neg (by omega)]
    · rw [dif_pos (by omega), b4 m c t 14 ⟨R.val - 2, by omega⟩ (by show R.val - 2 = (t.val * 16 - 1) * 16 + 14; omega),
        b5 m c t 14 ⟨R.val - 2, by omega⟩ (by show R.val - 2 = (t.val * 16 - 1) * 16 + 14; omega)]
      rfl
  · split
    · split
      · rw [dif_neg (by omega)]
      · rw [dif_pos (by omega), b4 m c t 15 ⟨R.val - 2, by omega⟩ (by show R.val - 2 = (t.val * 16 - 1) * 16 + 15; omega),
          b5 m c t 15 ⟨R.val - 2, by omega⟩ (by show R.val - 2 = (t.val * 16 - 1) * 16 + 15; omega)]
        rfl
    · rw [dif_pos (by omega), b2 m c t _ ⟨R.val - 2, by omega⟩ (by show R.val - 2 = t.val * 256 + (r.val + 256 - 2) % 256; omega),
        b3 m c t _ ⟨R.val - 2, by omega⟩ (by show R.val - 2 = t.val * 256 + (r.val + 256 - 2) % 256; omega)]
      rfl

end Rows

theorem outer_congr {x x' : EReal} {g1 g1' g2 g2' A A' B B' : Fin 2048 → EReal} {W1 W1' W2 W2' : Fin 2048 → Fin 2048 → EReal}
    {w3 w3' : Fin 2048 → EReal} (hx : x = x') (h1 : ∀ j, g1 j = g1' j) (h2 : ∀ j, g2 j = g2' j) (hA : ∀ l, A l = A' l)
    (hB : ∀ l, B l = B' l) (hW1 : ∀ l j, W1 l j = W1' l j) (hW2 : ∀ l j, W2 l j = W2' l j) (hw : ∀ j, w3 j = w3' j) :
    outer x g1 g2 A B W1 W2 w3 = outer x' g1' g2' A' B' W1' W2' w3' := by
  rw [hx, funext h1, funext h2, funext hA, funext hB, funext fun l => funext (hW1 l), funext fun l => funext (hW2 l), funext hw]

theorem conv_congr {g g' w0 w0' w1 w1' w2 w2' b b' u0 u0' u1 u1' u2 u2' : EReal} (hg : g = g') (h0 : w0 = w0') (h1 : w1 = w1')
    (h2 : w2 = w2') (hb : b = b') (hu0 : u0 = u0') (hu1 : u1 = u1') (hu2 : u2 = u2') :
    conv g w0 w1 w2 b u0 u1 u2 = conv g' w0' w1' w2' b' u0' u1' u2' := by
  rw [hg, h0, h1, h2, hb, hu0, hu1, hu2]

/-- The reference's result of the kernel's arguments. -/
abbrev res (c : Dev nD) : FVec Ideal S16384x2048 .f32 :=
  Cert.MergeRefIdeal.Value.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem point (c : Dev nD) (t : Fin cfg0.N) (r : Fin 256) (k : Fin 2048) (R : Fin 16384) (hR : R.val = t.val * 256 + r.val) :
    out0_14 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 r k)
      = res m c (ix2 R k) := by
  rw [ofBlocks]
  refine Eq.trans ?_ (Cert.MergeRefIdeal.Value.ofRef _ _ _ _ _ _ _ _ R k).symm
  exact outer_congr (b13 m c t r R hR k) (b8 m c t r R hR) (b9 m c t r R hR) (b0 m c t r R hR)
    (fun l => conv_congr (b1 m c t r R hR l) (b6 m c t 0 (by decide) l) (b6 m c t 1 (by decide) l) (b6 m c t 2 (by decide) l)
      (b7 m c t l) (row0 m c t r R hR l) (row1 m c t r R hR l) (row2 m c t r R hR l))
    (b10 m c t) (b11 m c t) (fun j => b12 m c t j k)

theorem row (t : Fin cfg0.N) (y : S256x2048.Idx) :
    (((View.whole main_v5).slice (win0_14.rect t)).emb y 0 : ℕ) = t.val * 256 + (y 0 : ℕ) := by blk_simp [idx t]
theorem col (t : Fin cfg0.N) (y : S256x2048.Idx) :
    (((View.whole main_v5).slice (win0_14.rect t)).emb y 1 : ℕ) = (y 1 : ℕ) := by blk_simp [idx t]

/-- The result array after the call. -/
theorem final (c : Dev nD) : (dats m 0 c).arrAt 14 (cfgs 0).N = res m c := by
  refine (dats m 0 c).arrAt_eq_of_covers 14 _ (by decide +kernel) fun t _ (y : S256x2048.Idx) => ?_
  blk_simp
  rw [after0_14]
  have e : ((View.whole main_v5).slice (win0_14.rect t)).emb y
      = ix2 (((View.whole main_v5).slice (win0_14.rect t)).emb y 0) (y 1) := by
    refine (eq_ix2 _).trans ?_; congr 1; exact Fin.ext (col t y)
  exact (congrArg _ (eq_ix2 y)).trans ((point m c t (y 0) (y 1) _ (row t y)).trans (congrArg _ e.symm))

end Cert.MergeIdeal.Value

end
-- ==== Proof.Words.lean ====
/- A bf16 word, and the f32 word whose upper half it is, denote the same number. -/
module

public import Idealize.ShloMosaic.Lib.Pipeline.ValueKit
public import Mathlib.Tactic.Ring
public import Mathlib.Tactic.Linarith

@[expose] public section

noncomputable section

open Idealize.ShloMosaic

namespace Words

theorem pow_split (E : Int) : (2 : ℝ) ^ (E - 127 - 7) = 2 ^ 16 * (2 : ℝ) ^ (E - 127 - 23) := by
  rw [show E - 127 - 7 = 16 + (E - 127 - 23) by ring, zpow_add₀ two_ne_zero]
  norm_num

theorem pow_split0 : (2 : ℝ) ^ (1 - 127 - 7 : Int) = 2 ^ 16 * (2 : ℝ) ^ (1 - 127 - 23 : Int) := pow_split 1

/-- Two words whose signs and exponents agree and whose significands differ by `16` trailing zero bits. -/
theorem wide (b : BitVec 16) (w : BitVec 32) (hs : w.extractLsb' 31 1 = b.extractLsb' 15 1)
    (he : w.extractLsb' 23 8 = b.extractLsb' 7 8) (hf : (w.extractLsb' 0 23).toNat = (b.extractLsb' 0 7).toNat * 2 ^ 16) :
    Ideal.ofBits .f32 w = Ideal.ofBits .bf16 b := by
  have key : Ideal.ieee 8 23 w = Ideal.ieee 8 7 b := by
    have e1 := pow_split ((b.extractLsb' 7 8).toNat : Int)
    have e0 := pow_split0
    unfold Ideal.ieee
    have hf' : ((w.extractLsb' 0 23).toNat : ℝ) = ((b.extractLsb' 0 7).toNat : ℝ) * 2 ^ 16 := by rw [hf]; push_cast; ring
    have hz : (w.extractLsb' 0 23).toNat = 0 ↔ (b.extractLsb' 0 7).toNat = 0 := by rw [hf]; simp
    simp only [Nat.reduceAdd, hs, he, hz, Nat.reduceSub]
    generalize (b.extractLsb' 7 8).toNat = E at *
    generalize (b.extractLsb' 0 7).toNat = T at *
    split
    · rfl
    · split
      · refine congrArg _ ?_
        rw [hf']
        norm_num
        ring_nf
      · refine congrArg _ ?_
        have d1 : ((E : Int) - (2 ^ 7 - 1) - (7 : ℕ)) = (E : Int) - 127 - 7 := by norm_num
        have d2 : ((E : Int) - (2 ^ 7 - 1) - (23 : ℕ)) = (E : Int) - 127 - 23 := by norm_num
        rw [d1, d2, e1]
        push_cast
        rw [hf']
        ring
  exact key

theorem low (w : BitVec 32) : Ideal.ofBits .f32 (w <<< 16) = Ideal.ofBits .bf16 (w.extractLsb' 0 16) := by
  refine wide _ _ ?_ ?_ ?_
  · ext i hi; interval_cases i; simp
  · ext i hi; interval_cases i <;> simp
  · simp [BitVec.extractLsb'_toNat, BitVec.toNat_shiftLeft, Nat.shiftLeft_eq]
    omega

theorem high (w : BitVec 32) : Ideal.ofBits .f32 (w &&& 0xFFFF0000#32) = Ideal.ofBits .bf16 (w.extractLsb' 16 16) := by
  have e : w &&& 0xFFFF0000#32 = (w >>> 16) <<< 16 := by
    ext i hi
    have : i < 32 := hi
    interval_cases i <;> simp
  rw [e, low]
  congr 1

end Words

end
-- ==== Proof.CombineValue.lean ====
/- What `combine` leaves in its result: the weighted sum of the expert outputs on the residual, normalised. -/
module

public import proofs.«01_k».proof.Proof.Gen.CombineIdeal.Frame
public import proofs.«01_k».proof.Proof.Gen.CombineRefIdeal.Run
public import proofs.«01_k».proof.Proof.Words
public import Idealize.ShloMosaic.Lib.Pipeline.ValueKit
public import Idealize.ShloMosaic.Lib.BitcastConvert

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

variable (m : (ℓ : Loc nD τ sig) → Buf (Elt Ideal) ℓ)
  (m' : (ℓ : Loc Cert.CombineRefIdeal.nD Cert.CombineRefIdeal.τ Cert.CombineRefIdeal.sig) → Buf (Elt Ideal) ℓ)

theorem idx : ∀ t : Fin cfg0.N, win0_0.index t = ![t.val, 0] ∧ win0_1.index t = ![0, t.val, 0] ∧ win0_2.index t = ![t.val, 0]
    ∧ win0_3.index t = ![0, 0] ∧ win0_4.index t = ![t.val, 0] :=
  (by decide +kernel : ∀ t : Fin grid0.N, _)

/-- Row and column of the result that position `y` of block `t` is. -/
theorem row (t : Fin cfg0.N) (y : S512x2048.Idx) :
    (((View.whole main_v1).slice (win0_4.rect t)).emb y 0 : ℕ) = t.val * 512 + (y 0 : ℕ) := by blk_simp [idx t]
theorem col (t : Fin cfg0.N) (y : S512x2048.Idx) :
    (((View.whole main_v1).slice (win0_4.rect t)).emb y 1 : ℕ) = (y 1 : ℕ) := by blk_simp [idx t]

theorem blk_x (c : Dev nD) (t : Fin cfg0.N) (y : S512x2048.Idx) (k : Fin 2048) : iblk m c 0 t (ix2 (y 0) k)
    = m ((c : Thread nD τ).loc main_arg0) (ix2 (((View.whole main_v1).slice (win0_4.rect t)).emb y 0) k) := by
  blk_point [iblk, V, idx t]
theorem blk_y (c : Dev nD) (t : Fin cfg0.N) (y : S512x2048.Idx) (k : Fin 4) (x : Fin 1024) : iblk m c 1 t (ix3 k (y 0) x)
    = m ((c : Thread nD τ).loc main_arg1) (ix3 k (((View.whole main_v1).slice (win0_4.rect t)).emb y 0) x) := by
  blk_point [iblk, V, idx t]
theorem blk_g (c : Dev nD) (t : Fin cfg0.N) (y : S512x2048.Idx) (k : Fin 128) : iblk m c 2 t (ix2 (y 0) k)
    = m ((c : Thread nD τ).loc main_arg2) (ix2 (((View.whole main_v1).slice (win0_4.rect t)).emb y 0) k) := by
  blk_point [iblk, V, idx t]

theorem entry (c : Dev nD) : V m c main_v0 = shapeCast S1x2048 (m ((c : Thread nD τ).loc main_arg3)) shapeCasts_S2048_S1x2048 := by
  entry_read; rfl

theorem blk_n (c : Dev nD) (t : Fin cfg0.N) (y : S512x2048.Idx) (z : S2048.Idx) (hz : (z 0 : ℕ) = y 1) :
    iblk m c 3 t (ix2 0 (y 1)) = m ((c : Thread nD τ).loc main_arg3) z := by
  unfold iblk
  show V m c main_v0 _ = _
  rw [entry]
  pointwise
  blk_ext [idx t]

theorem shl (w : BitVec 32) : Ideal.ofBits .f32 (IntOp.shli .vector w 16#32) = Ideal.ofBits .bf16 (w.extractLsb' 0 16) :=
  Words.low w
theorem and (w : BitVec 32) : Ideal.ofBits .f32 (IntOp.andi w 4294901760#32) = Ideal.ofBits .bf16 (w.extractLsb' 16 16) :=
  Words.high w

theorem narrow (f : IVec S4x16384x1024 32) (h : S4x16384x1024.SplitsWords 32 Cert.CombineRefIdeal.S4x16384x1024x2 16)
    (k : Fin 4) (r : Fin 16384) (x : Fin 1024) (b : Fin 2) :
    Host.bitcastConvertNarrow Cert.CombineRefIdeal.S4x16384x1024x2 16 f h (ix4 k r x b)
      = (f (ix3 k r x)).extractLsb' (b.val * 16) 16 := by
  rw [Host.bitcastConvertNarrow_apply]
  have e : h.drop (ix4 k r x b) = ix3 k r x := by
    funext a; apply Fin.ext
    fin_cases a <;> rfl
  rw [e]; rfl

/-- A word's half as a number: the lower one for `b = 0`, the upper one for `b = 1`. -/
def half (w : BitVec 32) (b : Nat) : EReal := Ideal.ofBits .bf16 (w.extractLsb' (b * 16) 16)

/-- Entry of one accumulated row: the residual plus the four gated expert outputs. -/
def acc (x : EReal) (g : Fin 4 → EReal) (w : Fin 4 → BitVec 32) (b : Nat) : EReal := x + ∑ q : Fin 4, g q * half (w q) b

/-- One entry of the result: its accumulated entry `e`, the row's mean square, the norm's weight. -/
def entryOf (e : EReal) (x : Fin 2048 → EReal) (g : Fin 4 → EReal) (w : Fin 4 → Fin 1024 → BitVec 32) (n : EReal) : EReal :=
  e * Ideal.rsqrt (Ideal.div
      ((∑ k : Fin 1024, acc (x ⟨k.val, by omega⟩) g (fun q => w q k) 0 * acc (x ⟨k.val, by omega⟩) g (fun q => w q k) 0)
        + ∑ k : Fin 1024, acc (x ⟨1024 + k.val, by omega⟩) g (fun q => w q k) 1 * acc (x ⟨1024 + k.val, by omega⟩) g (fun q => w q k) 1)
      (Ideal.ofBits .f32 1157627904#32) + Ideal.ofBits .f32 925353388#32) * n

def accAt (x : Fin 2048 → EReal) (g : Fin 4 → EReal) (w : Fin 4 → Fin 1024 → BitVec 32) (k : Fin 2048) : EReal :=
  if h : k.val < 1024 then acc (x k) g (fun q => w q ⟨k.val, h⟩) 0 else acc (x k) g (fun q => w q ⟨k.val - 1024, by omega⟩) 1

theorem acc_lo (x : EReal) (g : Fin 4 → EReal) (w : Fin 4 → BitVec 32) :
    x + g 0 * Ideal.ofBits .f32 (IntOp.shli .vector (w 0) 16#32) + g 1 * Ideal.ofBits .f32 (IntOp.shli .vector (w 1) 16#32)
      + g 2 * Ideal.ofBits .f32 (IntOp.shli .vector (w 2) 16#32) + g 3 * Ideal.ofBits .f32 (IntOp.shli .vector (w 3) 16#32)
    = acc x g w 0 := by
  unfold acc; rw [Fin.sum_univ_four, shl, shl, shl, shl]; simp only [add_assoc]; rfl

theorem acc_hi (x : EReal) (g : Fin 4 → EReal) (w : Fin 4 → BitVec 32) :
    x + g 0 * Ideal.ofBits .f32 (IntOp.andi (w 0) 4294901760#32) + g 1 * Ideal.ofBits .f32 (IntOp.andi (w 1) 4294901760#32)
      + g 2 * Ideal.ofBits .f32 (IntOp.andi (w 2) 4294901760#32) + g 3 * Ideal.ofBits .f32 (IntOp.andi (w 3) 4294901760#32)
    = acc x g w 1 := by
  unfold acc; rw [Fin.sum_univ_four, and, and, and, and]; simp only [add_assoc]; rfl

theorem ofBlocks (x0 : Vec Ideal S512x2048 .f32) (x1 : Vec Ideal S4x512x1024 .i32) (x2 : Vec Ideal S512x128 .f32)
    (x3 : Vec Ideal S1x2048 .f32) (r : Fin 512) (k : Fin 2048) :
    out0_4 x0 x1 x2 x3 (ix2 r k)
      = entryOf (accAt (fun k => x0 (ix2 r k)) (fun q => x2 (ix2 r ⟨q.val, by omega⟩)) (fun q x => x1 (ix3 q r x)) k)
          (fun k => x0 (ix2 r k)) (fun q => x2 (ix2 r ⟨q.val, by omega⟩)) (fun q x => x1 (ix3 q r x)) (x3 (ix2 0 k)) := by
  unfold out0_4
  frame_out
  pointwise [k0_pay1, k0_pay2, k0_pay3]
  unfold entryOf
  refine congrArg₂ (· * ·) (congrArg₂ (· * ·) ?_ (congrArg Ideal.rsqrt (congrArg₂ (· + ·)
    (congrArg (Ideal.div · _) (congrArg₂ (· + ·) (Finset.sum_congr rfl fun x _ => ?_) (Finset.sum_congr rfl fun x _ => ?_)))
    rfl))) rfl
  · unfold accAt
    split
    · exact acc_lo _ (fun q => x2 (ix2 r ⟨q.val, by omega⟩)) (fun q => x1 (ix3 q r ⟨k.val, by assumption⟩))
    · exact acc_hi _ (fun q => x2 (ix2 r ⟨q.val, by omega⟩)) (fun q => x1 (ix3 q r ⟨k.val - 1024, by omega⟩))
  · exact congrArg₂ (· * ·) (acc_lo _ (fun q => x2 (ix2 r ⟨q.val, by omega⟩)) (fun q => x1 (ix3 q r x)))
      (acc_lo _ (fun q => x2 (ix2 r ⟨q.val, by omega⟩)) (fun q => x1 (ix3 q r x)))
  · exact congrArg₂ (· * ·) (acc_hi _ (fun q => x2 (ix2 r ⟨q.val, by omega⟩)) (fun q => x1 (ix3 q r x)))
      (acc_hi _ (fun q => x2 (ix2 r ⟨q.val, by omega⟩)) (fun q => x1 (ix3 q r x)))

theorem ofRef (c : Dev Cert.CombineRefIdeal.nD) (a0 : Vec Ideal S16384x2048 .f32) (a1 : Vec Ideal S4x16384x1024 .i32)
    (a2 : Vec Ideal S16384x128 .f32) (a3 : Vec Ideal S2048 .f32)
    (h0 : m' ((c.tc : Thread _ _).loc Cert.CombineRefIdeal.main_arg0) = a0)
    (h1 : m' ((c.tc : Thread _ _).loc Cert.CombineRefIdeal.main_arg1) = a1)
    (h2 : m' ((c.tc : Thread _ _).loc Cert.CombineRefIdeal.main_arg2) = a2)
    (h3 : m' ((c.tc : Thread _ _).loc Cert.CombineRefIdeal.main_arg3) = a3) (r : Fin 16384) (k : Fin 2048) :
    Cert.CombineRefIdeal.Value.res_main_v26 m' c (ix2 r k)
      = entryOf (accAt (fun k => a0 (ix2 r k)) (fun q => a2 (ix2 r ⟨q.val, by omega⟩)) (fun q x => a1 (ix3 q r x)) k)
          (fun k => a0 (ix2 r k)) (fun q => a2 (ix2 r ⟨q.val, by omega⟩)) (fun q x => a1 (ix3 q r x)) (a3 (ix1 k)) := by
  unfold Cert.CombineRefIdeal.Value.res_main_v26
  rw [h0, h1, h2, h3]
  pointwise
  unfold entryOf
  refine congrArg₂ (· * ·) (congrArg₂ (· * ·) ?_ (congrArg Ideal.rsqrt (congrArg₂ (· + ·)
    (congrArg (Ideal.div · _) (congrArg₂ (· + ·) (Finset.sum_congr rfl fun x _ => ?_) (Finset.sum_congr rfl fun x _ => ?_)))
    rfl))) rfl
  · unfold accAt
    split <;>
    exact congrArg (_ + ·) (Finset.sum_congr rfl fun q _ => congrArg (_ * ·) (congrArg (Ideal.ofBits .bf16) (narrow _ _ _ _ _ _)))
  · refine congrArg₂ (· * ·) ?_ ?_ <;>
    exact congrArg (_ + ·) (Finset.sum_congr rfl fun q _ => congrArg (_ * ·) (congrArg (Ideal.ofBits .bf16) (narrow _ _ _ _ _ _)))
  · refine congrArg₂ (· * ·) ?_ ?_ <;>
    exact congrArg (_ + ·) (Finset.sum_congr rfl fun q _ => congrArg (_ * ·) (congrArg (Ideal.ofBits .bf16) (narrow _ _ _ _ _ _)))

theorem point (c : Dev nD) (c' : Dev Cert.CombineRefIdeal.nD)
    (h0 : m' ((c'.tc : Thread _ _).loc Cert.CombineRefIdeal.main_arg0) = m ((c : Thread nD τ).loc main_arg0))
    (h1 : m' ((c'.tc : Thread _ _).loc Cert.CombineRefIdeal.main_arg1) = m ((c : Thread nD τ).loc main_arg1))
    (h2 : m' ((c'.tc : Thread _ _).loc Cert.CombineRefIdeal.main_arg2) = m ((c : Thread nD τ).loc main_arg2))
    (h3 : m' ((c'.tc : Thread _ _).loc Cert.CombineRefIdeal.main_arg3) = m ((c : Thread nD τ).loc main_arg3))
    (t : Fin cfg0.N) (y : S512x2048.Idx) (r : Fin 512) (k : Fin 2048) (R : Fin 16384)
    (hy : y = ix2 r k) (hR : ((View.whole main_v1).slice (win0_4.rect t)).emb y = ix2 R k) :
    out0_4 (iblk m c 0 t) (iblk m c 1 t) (iblk m c 2 t) (iblk m c 3 t) y = Cert.CombineRefIdeal.Value.res_main_v26 m' c' (ix2 R k) := by
  rw [ofRef m' c' _ _ _ _ h0 h1 h2 h3 R k, hy, ofBlocks]
  have q0 (k : Fin 2048) : iblk m c 0 t (ix2 r k) = m ((c : Thread nD τ).loc main_arg0) (ix2 R k) := by
    have := blk_x m c t y k; rw [hR, hy] at this; exact this
  have q1 (q : Fin 4) (x : Fin 1024) : iblk m c 1 t (ix3 q r x) = m ((c : Thread nD τ).loc main_arg1) (ix3 q R x) := by
    have := blk_y m c t y q x; rw [hR, hy] at this; exact this
  have q2 (q : Fin 128) : iblk m c 2 t (ix2 r q) = m ((c : Thread nD τ).loc main_arg2) (ix2 R q) := by
    have := blk_g m c t y q; rw [hR, hy] at this; exact this
  have q3 : iblk m c 3 t (ix2 0 k) = m ((c : Thread nD τ).loc main_arg3) (ix1 k) := by
    have := blk_n m c t y (ix1 k) (by rw [hy]; rfl); rw [hy] at this; exact this
  have p0 := funext q0
  have p1 := funext fun q => funext (q1 q)
  have p2 := funext fun q : Fin 4 => q2 ⟨q.val, by omega⟩
  exact congr (congr (congr (congr (congrArg entryOf (congrFun (congr (congr (congrArg accAt p0) p2) p1) k)) p0) p2) p1) q3

theorem final (c : Dev nD) (c' : Dev Cert.CombineRefIdeal.nD)
    (h0 : m' ((c'.tc : Thread _ _).loc Cert.CombineRefIdeal.main_arg0) = m ((c : Thread nD τ).loc main_arg0))
    (h1 : m' ((c'.tc : Thread _ _).loc Cert.CombineRefIdeal.main_arg1) = m ((c : Thread nD τ).loc main_arg1))
    (h2 : m' ((c'.tc : Thread _ _).loc Cert.CombineRefIdeal.main_arg2) = m ((c : Thread nD τ).loc main_arg2))
    (h3 : m' ((c'.tc : Thread _ _).loc Cert.CombineRefIdeal.main_arg3) = m ((c : Thread nD τ).loc main_arg3)) :
    (dats m 0 c).arrAt 4 (cfgs 0).N = Cert.CombineRefIdeal.Value.res_main_v26 m' c' := by
  refine (dats m 0 c).arrAt_eq_of_covers 4 _ (by decide +kernel) fun t _ (y : S512x2048.Idx) => ?_
  blk_simp
  rw [after0_4]
  have e : ((View.whole main_v1).slice (win0_4.rect t)).emb y
      = ix2 (((View.whole main_v1).slice (win0_4.rect t)).emb y 0) (y 1) := by
    refine (eq_ix2 _).trans ?_; congr 1; exact Fin.ext (col t y)
  exact (point m m' c c' h0 h1 h2 h3 t y (y 0) (y 1) _ (eq_ix2 y) e).trans (congrArg _ e.symm)

end Cert.CombineIdeal.Value

end
-- ==== Proof.ExpertsBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

/-! What a grid point of the expert call leaves in its output buffer, one lemma per case of the point:
the rows before the block's first token are skipped in steps of 128, and a block out of use leaves the buffer alone. -/

@[expose] public section

set_option maxRecDepth 16384

noncomputable section

namespace Cert.ExpertsIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- The whole of the token block, and its rows from 128, 256 and 384 on. -/
abbrev rX1 : Rect S512x1024 := Rect.unit (s := S512x1024) ![0, 0] S512x1024.size inb_S512x1024_S512x1024_0_0
abbrev rX2 : Rect S512x1024 := Rect.unit (s := S512x1024) ![128, 0] S384x1024.size inb_S512x1024_S384x1024_128_0
abbrev rX3 : Rect S512x1024 := Rect.unit (s := S512x1024) ![256, 0] S256x1024.size inb_S512x1024_S256x1024_256_0
abbrev rX4 : Rect S512x1024 := Rect.unit (s := S512x1024) ![384, 0] S128x1024.size inb_S512x1024_S128x1024_384_0
/-- The whole of a half of the gate or up weights, of its biases, of the down weights, of their biases. -/
abbrev rG : Rect S1x2048x1024 := Rect.unit (s := S1x2048x1024) ![0, 0, 0] S1x2048x1024.size inb_S1x2048x1024_S1x2048x1024_0_0_0
abbrev rB : Rect S1x1x1024 := Rect.unit (s := S1x1x1024) ![0, 0, 0] S1x1x1024.size inb_S1x1x1024_S1x1x1024_0_0_0
abbrev rD : Rect S1x1024x2048 := Rect.unit (s := S1x1024x2048) ![0, 0, 0] S1x1024x2048.size inb_S1x1024x2048_S1x1024x2048_0_0_0
abbrev rC : Rect S1x1x2048 := Rect.unit (s := S1x1x2048) ![0, 0, 0] S1x1x2048.size inb_S1x1x2048_S1x1x2048_0_0_0
/-- The output block's rows: all, those from 128, 256 and 384 on, and those before them. -/
abbrev rY1 : Rect S512x2048 := Rect.unit (s := S512x2048) ![0, 0] S512x2048.size inb_S512x2048_S512x2048_0_0
abbrev rY2 : Rect S512x2048 := Rect.unit (s := S512x2048) ![128, 0] S384x2048.size inb_S512x2048_S384x2048_128_0
abbrev rY3 : Rect S512x2048 := Rect.unit (s := S512x2048) ![256, 0] S256x2048.size inb_S512x2048_S256x2048_256_0
abbrev rY4 : Rect S512x2048 := Rect.unit (s := S512x2048) ![384, 0] S128x2048.size inb_S512x2048_S128x2048_384_0
abbrev rZ2 : Rect S512x2048 := Rect.unit (s := S512x2048) ![0, 0] S128x2048.size inb_S512x2048_S128x2048_0_0
abbrev rZ3 : Rect S512x2048 := Rect.unit (s := S512x2048) ![0, 0] S256x2048.size inb_S512x2048_S256x2048_0_0
abbrev rZ4 : Rect S512x2048 := Rect.unit (s := S512x2048) ![0, 0] S384x2048.size inb_S512x2048_S384x2048_0_0

/-- The first row of token block `i` that holds a token, in the table of them. -/
abbrev fvAt (t : S160.Idx → BitVec 32) (i : grid0.Coords) : BitVec 32 :=
  t ((Rect.unit (s := S160) (k0_off1 i) S1.size (k0_off1_inb i)).emb (Shape.Idx.first (numel1_S1.symm ▸ Nat.one_pos)))
/-- The number of token blocks in use. -/
abbrev nbAt (t : S1.Idx → BitVec 32) : BitVec 32 :=
  t ((Rect.unit (s := S1) ![0] S1.size inb_S1_S1_0).emb (Shape.Idx.first (numel1_S1.symm ▸ Nat.one_pos)))

/-- The block's output when its first token is among the first 128 rows. -/
def out1 (v : BitVec 32) (x : Vec F S512x1024 .i32) (g u : Vec F S1x2048x1024 .bf16) (bg bu : Vec F S1x1x1024 .f32)
    (d : Vec F S1x1024x2048 .bf16) (bd : Vec F S1x1x2048 .f32) : Vec F S512x2048 .f32 :=
  View.canon [⟨rY1, k0_pay1 (k0_pay9 v (View.ld x rX1) (View.ld g rG) (View.ld bg rB))
    (k0_pay10 v (View.ld x rX1) (View.ld u rG) (View.ld bu rB)) k0_pay11 (View.ld bd rC) (View.ld d rD)⟩]
/-- The same when it is among rows 128 to 255: the rows before 128 are zero. -/
def out2 (v : BitVec 32) (x : Vec F S512x1024 .i32) (g u : Vec F S1x2048x1024 .bf16) (bg bu : Vec F S1x1x1024 .f32)
    (d : Vec F S1x1024x2048 .bf16) (bd : Vec F S1x1x2048 .f32) : Vec F S512x2048 .f32 :=
  View.canon [⟨rZ2, k0_pay3⟩, ⟨rY2, k0_pay2 (k0_pay13 v (View.ld x rX2) (View.ld g rG) (View.ld bg rB))
    (k0_pay14 v (View.ld x rX2) (View.ld u rG) (View.ld bu rB)) k0_pay15 (View.ld bd rC) (View.ld d rD)⟩]
/-- Among rows 256 to 383. -/
def out3 (v : BitVec 32) (x : Vec F S512x1024 .i32) (g u : Vec F S1x2048x1024 .bf16) (bg bu : Vec F S1x1x1024 .f32)
    (d : Vec F S1x1024x2048 .bf16) (bd : Vec F S1x1x2048 .f32) : Vec F S512x2048 .f32 :=
  View.canon [⟨rZ3, k0_pay5⟩, ⟨rY3, k0_pay4 (k0_pay17 v (View.ld x rX3) (View.ld g rG) (View.ld bg rB))
    (k0_pay18 v (View.ld x rX3) (View.ld u rG) (View.ld bu rB)) k0_pay19 (View.ld bd rC) (View.ld d rD)⟩]
/-- Among rows 384 to 511. -/
def out4 (v : BitVec 32) (x : Vec F S512x1024 .i32) (g u : Vec F S1x2048x1024 .bf16) (bg bu : Vec F S1x1x1024 .f32)
    (d : Vec F S1x1024x2048 .bf16) (bd : Vec F S1x1x2048 .f32) : Vec F S512x2048 .f32 :=
  View.canon [⟨rZ4, k0_pay7⟩, ⟨rY4, k0_pay6 (k0_pay21 v (View.ld x rX4) (View.ld g rG) (View.ld bg rB))
    (k0_pay22 v (View.ld x rX4) (View.ld u rG) (View.ld bu rB)) k0_pay23 (View.ld bd rC) (View.ld d rD)⟩]
theorem cov1 (p : Vec F S512x2048 .f32) (y : S512x2048.Idx) :
    ∃ pc ∈ ([⟨rY1, p⟩] : List (View.Piece (Elt F) S512x2048 .f32)), y ∈ pc.1.set :=
  View.cover_of_tiled [⟨rY1, p⟩] S512x2048.size (by rfl) y
theorem cov2 (z : Vec F S128x2048 .f32) (p : Vec F S384x2048 .f32) (y : S512x2048.Idx) :
    ∃ pc ∈ ([⟨rZ2, z⟩, ⟨rY2, p⟩] : List (View.Piece (Elt F) S512x2048 .f32)), y ∈ pc.1.set :=
  by
  by_cases h : (y 0).val < 128
  · refine ⟨⟨rZ2, z⟩, List.mem_cons_self, (Rect.mem_set_unit (inb := inb_S512x2048_S128x2048_0_0)).mpr fun a => ?_⟩
    match a with
    | ⟨0, _⟩ => exact ⟨Nat.zero_le _, by show (y 0).val < 0 + 128; omega⟩
    | ⟨1, _⟩ => exact ⟨Nat.zero_le _, by show (y 1).val < 0 + 2048; have := (y 1).isLt; exact this.trans_le (by decide)⟩
  · refine ⟨⟨rY2, p⟩, List.mem_cons_of_mem _ List.mem_cons_self,
      (Rect.mem_set_unit (inb := inb_S512x2048_S384x2048_128_0)).mpr fun a => ?_⟩
    match a with
    | ⟨0, _⟩ => exact ⟨Nat.le_of_not_lt h, by show (y 0).val < 128 + 384; have := (y 0).isLt; exact this.trans_le (by decide)⟩
    | ⟨1, _⟩ => exact ⟨Nat.zero_le _, by show (y 1).val < 0 + 2048; have := (y 1).isLt; exact this.trans_le (by decide)⟩
theorem cov3 (z : Vec F S256x2048 .f32) (p : Vec F S256x2048 .f32) (y : S512x2048.Idx) :
    ∃ pc ∈ ([⟨rZ3, z⟩, ⟨rY3, p⟩] : List (View.Piece (Elt F) S512x2048 .f32)), y ∈ pc.1.set :=
  by
  by_cases h : (y 0).val < 256
  · refine ⟨⟨rZ3, z⟩, List.mem_cons_self, (Rect.mem_set_unit (inb := inb_S512x2048_S256x2048_0_0)).mpr fun a => ?_⟩
    match a with
    | ⟨0, _⟩ => exact ⟨Nat.zero_le _, by show (y 0).val < 0 + 256; omega⟩
    | ⟨1, _⟩ => exact ⟨Nat.zero_le _, by show (y 1).val < 0 + 2048; have := (y 1).isLt; exact this.trans_le (by decide)⟩
  · refine ⟨⟨rY3, p⟩, List.mem_cons_of_mem _ List.mem_cons_self,
      (Rect.mem_set_unit (inb := inb_S512x2048_S256x2048_256_0)).mpr fun a => ?_⟩
    match a with
    | ⟨0, _⟩ => exact ⟨Nat.le_of_not_lt h, by show (y 0).val < 256 + 256; have := (y 0).isLt; exact this.trans_le (by decide)⟩
    | ⟨1, _⟩ => exact ⟨Nat.zero_le _, by show (y 1).val < 0 + 2048; have := (y 1).isLt; exact this.trans_le (by decide)⟩
theorem cov4 (z : Vec F S384x2048 .f32) (p : Vec F S128x2048 .f32) (y : S512x2048.Idx) :
    ∃ pc ∈ ([⟨rZ4, z⟩, ⟨rY4, p⟩] : List (View.Piece (Elt F) S512x2048 .f32)), y ∈ pc.1.set :=
  by
  by_cases h : (y 0).val < 384
  · refine ⟨⟨rZ4, z⟩, List.mem_cons_self, (Rect.mem_set_unit (inb := inb_S512x2048_S384x2048_0_0)).mpr fun a => ?_⟩
    match a with
    | ⟨0, _⟩ => exact ⟨Nat.zero_le _, by show (y 0).val < 0 + 384; omega⟩
    | ⟨1, _⟩ => exact ⟨Nat.zero_le _, by show (y 1).val < 0 + 2048; have := (y 1).isLt; exact this.trans_le (by decide)⟩
  · refine ⟨⟨rY4, p⟩, List.mem_cons_of_mem _ List.mem_cons_self,
      (Rect.mem_set_unit (inb := inb_S512x2048_S128x2048_384_0)).mpr fun a => ?_⟩
    match a with
    | ⟨0, _⟩ => exact ⟨Nat.le_of_not_lt h, by show (y 0).val < 384 + 128; have := (y 0).isLt; exact this.trans_le (by decide)⟩
    | ⟨1, _⟩ => exact ⟨Nat.zero_le _, by show (y 1).val < 0 + 2048; have := (y 1).isLt; exact this.trans_le (by decide)⟩

set_option maxHeartbeats 1000000 in
/-- A block out of use. -/
theorem bodyIdle (c : Dev nD) (E : Set ℕ) (i : grid0.Coords)
    (a1 : Memref sig .tc .smem S160 .i32) (h1 : a1.IsWhole) (a2 : Memref sig .tc .smem S1 .i32) (h2 : a2.IsWhole) (a3 : Memref sig .tc .smem S160 .i32) (h3 : a3.IsWhole)
    (a4 : Memref sig .tc .vmem S512x1024 .i32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S1x1x1024 .f32) (h7 : a7.IsWhole) (a8 : Memref sig .tc .vmem S1x1x1024 .f32) (h8 : a8.IsWhole)
    (a9 : Memref sig .tc .vmem S1x1024x2048 .bf16) (h9 : a9.IsWhole) (a10 : Memref sig .tc .vmem S1x1x2048 .f32) (h10 : a10.IsWhole)
    (a11 : Memref sig .tc .vmem S512x2048 .f32) (h11 : a11.IsWhole)
    (q : PosShare TreeShare) (t1 : Vec F S1 .i32) (t2 : Vec F S160 .i32)
    (hc1 : ¬ k0_cond1 i (fvAt t2 i) (nbAt t1) = 1#1) (hc2 : ¬ k0_cond2 i (fvAt t2 i) (nbAt t1) = 1#1) (hc3 : ¬ k0_cond3 i (fvAt t2 i) (nbAt t1) = 1#1) (hc4 : ¬ k0_cond4 i (fvAt t2 i) (nbAt t1) = 1#1)
    (x4 : Vec F S512x1024 .i32) (x5 x6 : Vec F S1x2048x1024 .bf16) (x7 x8 : Vec F S1x1x1024 .f32)
    (x9 : Vec F S1x1024x2048 .bf16) (x10 : Vec F S1x1x2048 .f32) (d : Vec F S512x2048 .f32) (K : PUnit → sProp 𝕄) :
    iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare d
        ∗ (iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare d) -∗ K ⟨⟩))
      ⊢ wp frame (wpE (defs₀ (F := F)) Variants.none c none) E
        (cc0_experts_0 i a1 h1 a2 h2 a3 h3 a4 h4 a5 h5 a6 h6 a7 h7 a8 h8 a9 h9 a10 h10 a11 h11) K := by
  simp only [cc0_experts_0_eq_skeleton]; unfold cc0_experts_0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  sl_exec (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists f11; isplitr; · ipureintro; rfl
  iexact H11

set_option maxHeartbeats 1000000 in
/-- A block in use whose first token is in the first 128 rows. -/
theorem body1 (c : Dev nD) (E : Set ℕ) (i : grid0.Coords)
    (a1 : Memref sig .tc .smem S160 .i32) (h1 : a1.IsWhole) (a2 : Memref sig .tc .smem S1 .i32) (h2 : a2.IsWhole) (a3 : Memref sig .tc .smem S160 .i32) (h3 : a3.IsWhole)
    (a4 : Memref sig .tc .vmem S512x1024 .i32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S1x1x1024 .f32) (h7 : a7.IsWhole) (a8 : Memref sig .tc .vmem S1x1x1024 .f32) (h8 : a8.IsWhole)
    (a9 : Memref sig .tc .vmem S1x1024x2048 .bf16) (h9 : a9.IsWhole) (a10 : Memref sig .tc .vmem S1x1x2048 .f32) (h10 : a10.IsWhole)
    (a11 : Memref sig .tc .vmem S512x2048 .f32) (h11 : a11.IsWhole)
    (q : PosShare TreeShare) (t1 : Vec F S1 .i32) (t2 : Vec F S160 .i32)
    (hc1 : k0_cond1 i (fvAt t2 i) (nbAt t1) = 1#1) (hc2 : ¬ k0_cond2 i (fvAt t2 i) (nbAt t1) = 1#1) (hc3 : ¬ k0_cond3 i (fvAt t2 i) (nbAt t1) = 1#1) (hc4 : ¬ k0_cond4 i (fvAt t2 i) (nbAt t1) = 1#1)
    (x4 : Vec F S512x1024 .i32) (x5 x6 : Vec F S1x2048x1024 .bf16) (x7 x8 : Vec F S1x1x1024 .f32)
    (x9 : Vec F S1x1024x2048 .bf16) (x10 : Vec F S1x1x2048 .f32) (K : PUnit → sProp 𝕄) :
    iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out1 (fvAt t2 i) x4 x5 x6 x7 x8 x9 x10)) -∗ K ⟨⟩))
      ⊢ wp frame (wpE (defs₀ (F := F)) Variants.none c none) E
        (cc0_experts_0 i a1 h1 a2 h2 a3 h3 a4 h4 a5 h5 a6 h6 a7 h7 a8 h8 a9 h9 a10 h10 a11 h11) K := by
  simp only [cc0_experts_0_eq_skeleton]; unfold cc0_experts_0_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf2 hf3 hf4 hf5 hf6 hf7 hf8 hf9 hf10
  sl_exec (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr; swap; · iexact H11
  ipureintro; exact View.read_writes_eq_canon _ _ _ (cov1 _)

set_option maxHeartbeats 1000000 in
/-- A block in use whose first token is in the second 128 rows. -/
theorem body2 (c : Dev nD) (E : Set ℕ) (i : grid0.Coords)
    (a1 : Memref sig .tc .smem S160 .i32) (h1 : a1.IsWhole) (a2 : Memref sig .tc .smem S1 .i32) (h2 : a2.IsWhole) (a3 : Memref sig .tc .smem S160 .i32) (h3 : a3.IsWhole)
    (a4 : Memref sig .tc .vmem S512x1024 .i32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S1x1x1024 .f32) (h7 : a7.IsWhole) (a8 : Memref sig .tc .vmem S1x1x1024 .f32) (h8 : a8.IsWhole)
    (a9 : Memref sig .tc .vmem S1x1024x2048 .bf16) (h9 : a9.IsWhole) (a10 : Memref sig .tc .vmem S1x1x2048 .f32) (h10 : a10.IsWhole)
    (a11 : Memref sig .tc .vmem S512x2048 .f32) (h11 : a11.IsWhole)
    (q : PosShare TreeShare) (t1 : Vec F S1 .i32) (t2 : Vec F S160 .i32)
    (hc1 : ¬ k0_cond1 i (fvAt t2 i) (nbAt t1) = 1#1) (hc2 : k0_cond2 i (fvAt t2 i) (nbAt t1) = 1#1) (hc3 : ¬ k0_cond3 i (fvAt t2 i) (nbAt t1) = 1#1) (hc4 : ¬ k0_cond4 i (fvAt t2 i) (nbAt t1) = 1#1)
    (x4 : Vec F S512x1024 .i32) (x5 x6 : Vec F S1x2048x1024 .bf16) (x7 x8 : Vec F S1x1x1024 .f32)
    (x9 : Vec F S1x1024x2048 .bf16) (x10 : Vec F S1x1x2048 .f32) (K : PUnit → sProp 𝕄) :
    iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out2 (fvAt t2 i) x4 x5 x6 x7 x8 x9 x10)) -∗ K ⟨⟩))
      ⊢ wp frame (wpE (defs₀ (F := F)) Variants.none c none) E
        (cc0_experts_0 i a1 h1 a2 h2 a3 h3 a4 h4 a5 h5 a6 h6 a7 h7 a8 h8 a9 h9 a10 h10 a11 h11) K := by
  simp only [cc0_experts_0_eq_skeleton]; unfold cc0_experts_0_skel
  simp only [k0_part2_eq_skeleton]; unfold k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf2 hf3 hf4 hf5 hf6 hf7 hf8 hf9 hf10
  sl_exec (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr; swap; · iexact H11
  ipureintro; exact View.read_writes_eq_canon _ _ _ (cov2 _ _)

set_option maxHeartbeats 1000000 in
/-- A block in use whose first token is in the third 128 rows. -/
theorem body3 (c : Dev nD) (E : Set ℕ) (i : grid0.Coords)
    (a1 : Memref sig .tc .smem S160 .i32) (h1 : a1.IsWhole) (a2 : Memref sig .tc .smem S1 .i32) (h2 : a2.IsWhole) (a3 : Memref sig .tc .smem S160 .i32) (h3 : a3.IsWhole)
    (a4 : Memref sig .tc .vmem S512x1024 .i32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S1x1x1024 .f32) (h7 : a7.IsWhole) (a8 : Memref sig .tc .vmem S1x1x1024 .f32) (h8 : a8.IsWhole)
    (a9 : Memref sig .tc .vmem S1x1024x2048 .bf16) (h9 : a9.IsWhole) (a10 : Memref sig .tc .vmem S1x1x2048 .f32) (h10 : a10.IsWhole)
    (a11 : Memref sig .tc .vmem S512x2048 .f32) (h11 : a11.IsWhole)
    (q : PosShare TreeShare) (t1 : Vec F S1 .i32) (t2 : Vec F S160 .i32)
    (hc1 : ¬ k0_cond1 i (fvAt t2 i) (nbAt t1) = 1#1) (hc2 : ¬ k0_cond2 i (fvAt t2 i) (nbAt t1) = 1#1) (hc3 : k0_cond3 i (fvAt t2 i) (nbAt t1) = 1#1) (hc4 : ¬ k0_cond4 i (fvAt t2 i) (nbAt t1) = 1#1)
    (x4 : Vec F S512x1024 .i32) (x5 x6 : Vec F S1x2048x1024 .bf16) (x7 x8 : Vec F S1x1x1024 .f32)
    (x9 : Vec F S1x1024x2048 .bf16) (x10 : Vec F S1x1x2048 .f32) (K : PUnit → sProp 𝕄) :
    iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out3 (fvAt t2 i) x4 x5 x6 x7 x8 x9 x10)) -∗ K ⟨⟩))
      ⊢ wp frame (wpE (defs₀ (F := F)) Variants.none c none) E
        (cc0_experts_0 i a1 h1 a2 h2 a3 h3 a4 h4 a5 h5 a6 h6 a7 h7 a8 h8 a9 h9 a10 h10 a11 h11) K := by
  simp only [cc0_experts_0_eq_skeleton]; unfold cc0_experts_0_skel
  simp only [k0_part3_eq_skeleton]; unfold k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf2 hf3 hf4 hf5 hf6 hf7 hf8 hf9 hf10
  sl_exec (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr; swap; · iexact H11
  ipureintro; exact View.read_writes_eq_canon _ _ _ (cov3 _ _)

set_option maxHeartbeats 1000000 in
/-- A block in use whose first token is in the fourth 128 rows. -/
theorem body4 (c : Dev nD) (E : Set ℕ) (i : grid0.Coords)
    (a1 : Memref sig .tc .smem S160 .i32) (h1 : a1.IsWhole) (a2 : Memref sig .tc .smem S1 .i32) (h2 : a2.IsWhole) (a3 : Memref sig .tc .smem S160 .i32) (h3 : a3.IsWhole)
    (a4 : Memref sig .tc .vmem S512x1024 .i32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S1x1x1024 .f32) (h7 : a7.IsWhole) (a8 : Memref sig .tc .vmem S1x1x1024 .f32) (h8 : a8.IsWhole)
    (a9 : Memref sig .tc .vmem S1x1024x2048 .bf16) (h9 : a9.IsWhole) (a10 : Memref sig .tc .vmem S1x1x2048 .f32) (h10 : a10.IsWhole)
    (a11 : Memref sig .tc .vmem S512x2048 .f32) (h11 : a11.IsWhole)
    (q : PosShare TreeShare) (t1 : Vec F S1 .i32) (t2 : Vec F S160 .i32)
    (hc1 : ¬ k0_cond1 i (fvAt t2 i) (nbAt t1) = 1#1) (hc2 : ¬ k0_cond2 i (fvAt t2 i) (nbAt t1) = 1#1) (hc3 : ¬ k0_cond3 i (fvAt t2 i) (nbAt t1) = 1#1) (hc4 : k0_cond4 i (fvAt t2 i) (nbAt t1) = 1#1)
    (x4 : Vec F S512x1024 .i32) (x5 x6 : Vec F S1x2048x1024 .bf16) (x7 x8 : Vec F S1x1x1024 .f32)
    (x9 : Vec F S1x1024x2048 .bf16) (x10 : Vec F S1x1x2048 .f32) (K : PUnit → sProp 𝕄) :
    iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a2 q t1 ∗ owns (c : Thread nD τ) a3 q t2 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out4 (fvAt t2 i) x4 x5 x6 x7 x8 x9 x10)) -∗ K ⟨⟩))
      ⊢ wp frame (wpE (defs₀ (F := F)) Variants.none c none) E
        (cc0_experts_0 i a1 h1 a2 h2 a3 h3 a4 h4 a5 h5 a6 h6 a7 h7 a8 h8 a9 h9 a10 h10 a11 h11) K := by
  simp only [cc0_experts_0_eq_skeleton]; unfold cc0_experts_0_skel
  simp only [k0_part4_eq_skeleton]; unfold k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf2 hf3 hf4 hf5 hf6 hf7 hf8 hf9 hf10
  sl_exec (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr; swap; · iexact H11
  ipureintro; exact View.read_writes_eq_canon _ _ _ (cov4 _ _)

end Cert.ExpertsIdeal.Body

end
-- ==== Proof.ExpertsTables.lean ====
module

public import proofs.«01_k».proof.Proof.ExpertsBody
public import Idealize.ShloMosaic.Lib.WordArith

/-! The three tables the expert call reads before it runs: the expert of each token block, the number of
blocks in use, and each block's first row that holds a token. With the experts below 32, at least one block
in use and the first rows below 512, every block the call addresses lies inside its array. -/

@[expose] public section

set_option maxRecDepth 16384

noncomputable section

namespace Cert.ExpertsIdeal.Tables

open Idealize.ShloMosaic Idealize.ShloMosaic.TcCoe Idealize.ShloMosaic.Tactic
open Cert.ExpertsIdeal.Gen Cert.ExpertsIdeal.Body

variable {F : FTy → Type} [FloatOps F]

/-- The number of token blocks in use. -/
abbrev nb (pf : pre0.Contents (Elt F)) : BitVec 32 := nbAt (pf 1)
/-- The expert of the token block at a grid point. -/
abbrev be (pf : pre0.Contents (Elt F)) (i : grid0.Coords) : BitVec 32 := fvAt (pf 0) i
/-- Its first row that holds a token. -/
abbrev fv (pf : pre0.Contents (Elt F)) (i : grid0.Coords) : BitVec 32 := fvAt (pf 2) i

/-- The tables' words are in range. -/
structure Good (pf : pre0.Contents (Elt F)) : Prop where
  expert : ∀ i, (be pf i).toNat < 32
  some : 1 ≤ (nb pf).toNat
  pos : (nb pf).toNat < 2 ^ 31
  first : ∀ i, (fv pf i).toNat < 512

/-! ### The guards of the four cases -/

theorem as_nat (v : BitVec 32) (N : ℕ) (h : v.toNat < N) : ∃ a : ℕ, a < N ∧ v = BitVec.ofNat 32 a :=
  ⟨v.toNat, h, BitVec.eq_of_toNat_eq (by rw [BitVec.toNat_ofNat]; exact (Nat.mod_eq_of_lt v.isLt).symm)⟩

theorem cond1_iff (i : grid0.Coords) (v n : BitVec 32) (hv : v.toNat < 512) (hn : n.toNat < 2 ^ 31) :
    k0_cond1 i v n = 1#1 ↔ (i 0).val < n.toNat ∧ 0 ≤ v.toNat ∧ v.toNat < 128 := by
  have hi : (i 0).val < 160 := (i 0).isLt
  obtain ⟨a, ha, rfl⟩ := as_nat v 512 hv
  obtain ⟨b, hb, rfl⟩ := as_nat n (2 ^ 31) hn
  simp only [k0_cond1]
  word_cmp
theorem cond2_iff (i : grid0.Coords) (v n : BitVec 32) (hv : v.toNat < 512) (hn : n.toNat < 2 ^ 31) :
    k0_cond2 i v n = 1#1 ↔ (i 0).val < n.toNat ∧ 128 ≤ v.toNat ∧ v.toNat < 256 := by
  have hi : (i 0).val < 160 := (i 0).isLt
  obtain ⟨a, ha, rfl⟩ := as_nat v 512 hv
  obtain ⟨b, hb, rfl⟩ := as_nat n (2 ^ 31) hn
  simp only [k0_cond2]
  word_cmp
theorem cond3_iff (i : grid0.Coords) (v n : BitVec 32) (hv : v.toNat < 512) (hn : n.toNat < 2 ^ 31) :
    k0_cond3 i v n = 1#1 ↔ (i 0).val < n.toNat ∧ 256 ≤ v.toNat ∧ v.toNat < 384 := by
  have hi : (i 0).val < 160 := (i 0).isLt
  obtain ⟨a, ha, rfl⟩ := as_nat v 512 hv
  obtain ⟨b, hb, rfl⟩ := as_nat n (2 ^ 31) hn
  simp only [k0_cond3]
  word_cmp
theorem cond4_iff (i : grid0.Coords) (v n : BitVec 32) (hv : v.toNat < 512) (hn : n.toNat < 2 ^ 31) :
    k0_cond4 i v n = 1#1 ↔ (i 0).val < n.toNat ∧ 384 ≤ v.toNat ∧ v.toNat < 512 := by
  have hi : (i 0).val < 160 := (i 0).isLt
  obtain ⟨a, ha, rfl⟩ := as_nat v 512 hv
  obtain ⟨b, hb, rfl⟩ := as_nat n (2 ^ 31) hn
  simp only [k0_cond4]
  word_cmp

/-! ### The block indices -/

/-- The last token block in use, as far as `i`. -/
theorem block_val (i : grid0.Coords) (n : BitVec 32) (h1 : 1 ≤ n.toNat) (h2 : n.toNat < 2 ^ 31) :
    (Scalar.minsi (BitVec.ofNat 32 (i 0).val) (Scalar.subi n 1#32)).toNat = min (i 0).val (n.toNat - 1) := by
  have hi : (i 0).val < 160 := (i 0).isLt
  have e1 : (Scalar.subi n 1#32).toNat = n.toNat - 1 := by
    show (n - 1#32).toNat = _
    rw [BitVec.toNat_sub]
    show (2 ^ 32 - 1 + n.toNat) % 2 ^ 32 = _
    omega
  have e2 : (BitVec.ofNat 32 (i 0).val).toNat = (i 0).val := by
    rw [BitVec.toNat_ofNat]; omega
  exact (WordArith.toNat_minsi_of_lt _ _ (by omega) (by omega)).trans (by rw [e1, e2])

variable (pf : pre0.Contents (Elt F)) (hg : Good pf)

include hg in
theorem index0 (i : grid0.Coords) :
    cc0_transform_0 inb_S1_S1_0 numel1_S1 pf i = ![min (i 0).val ((nb pf).toNat - 1), 0] :=
  congrArg (fun k => ![k, 0]) (block_val i (nb pf) hg.some hg.pos)
include hg in
theorem index7 (i : grid0.Coords) :
    cc0_transform_7 inb_S1_S1_0 numel1_S1 pf i = ![min (i 0).val ((nb pf).toNat - 1), 0] :=
  congrArg (fun k => ![k, 0]) (block_val i (nb pf) hg.some hg.pos)
theorem index1 (i : grid0.Coords) : cc0_transform_1 k0_off1_inb numel1_S1 pf i = ![(be pf i).toNat, 0, 0] := rfl
theorem index2 (i : grid0.Coords) : cc0_transform_2 k0_off1_inb numel1_S1 pf i = ![(be pf i).toNat, 0, 2] := rfl
theorem index3 (i : grid0.Coords) : cc0_transform_3 k0_off1_inb numel1_S1 pf i = ![(be pf i).toNat, 0, 0] := rfl
theorem index4 (i : grid0.Coords) : cc0_transform_4 k0_off1_inb numel1_S1 pf i = ![(be pf i).toNat, 0, 2] := rfl
theorem index5 (i : grid0.Coords) : cc0_transform_5 k0_off1_inb numel1_S1 pf i = ![(be pf i).toNat, 0, 0] := rfl
theorem index6 (i : grid0.Coords) : cc0_transform_6 k0_off1_inb numel1_S1 pf i = ![(be pf i).toNat, 0, 0] := rfl

include hg in
/-- Every block is inside its array. -/
theorem ok_of_good : ok0 pf := by
  have hb (i) : (be pf i).toNat < 32 := hg.expert i
  have hi (i : grid0.Coords) : (i 0).val < 160 := (i 0).isLt
  refine ⟨fun i => ⟨fun a => ?_, .inl rfl⟩, fun i => ⟨fun a => ?_, .inr ?_⟩, fun i => ⟨fun a => ?_, .inr ?_⟩,
    fun i => ⟨fun a => ?_, .inl rfl⟩, fun i => ⟨fun a => ?_, .inl rfl⟩, fun i => ⟨fun a => ?_, .inr ?_⟩,
    fun i => ⟨fun a => ?_, .inl rfl⟩, fun i => ⟨fun a => ?_, .inl rfl⟩⟩
  · rw [index0 pf hg i]
    match a with
    | ⟨0, _⟩ => show (min (i 0).val ((nb pf).toNat - 1) + 1) * 512 ≤ 81920; have := hi i; omega
    | ⟨1, _⟩ => show (0 + 1) * 1024 ≤ 1024; decide
  · match a with
    | ⟨0, _⟩ => show ((be pf i).toNat + 1) * 1 ≤ 32; have := hb i; omega
    | ⟨1, _⟩ => show (0 + 1) * 2048 ≤ 2048; decide
    | ⟨2, _⟩ => show (0 + 1) * 1024 ≤ 4096; decide
  · exact .inr ⟨by decide, rfl, rfl, rfl⟩
  · match a with
    | ⟨0, _⟩ => show ((be pf i).toNat + 1) * 1 ≤ 32; have := hb i; omega
    | ⟨1, _⟩ => show (0 + 1) * 2048 ≤ 2048; decide
    | ⟨2, _⟩ => show (2 + 1) * 1024 ≤ 4096; decide
  · exact .inr ⟨by decide, rfl, rfl, rfl⟩
  · match a with
    | ⟨0, _⟩ => show ((be pf i).toNat + 1) * 1 ≤ 32; have := hb i; omega
    | ⟨1, _⟩ => show (0 + 1) * 1 ≤ 1; decide
    | ⟨2, _⟩ => show (0 + 1) * 1024 ≤ 4096; decide
  · match a with
    | ⟨0, _⟩ => show ((be pf i).toNat + 1) * 1 ≤ 32; have := hb i; omega
    | ⟨1, _⟩ => show (0 + 1) * 1 ≤ 1; decide
    | ⟨2, _⟩ => show (2 + 1) * 1024 ≤ 4096; decide
  · match a with
    | ⟨0, _⟩ => show ((be pf i).toNat + 1) * 1 ≤ 32; have := hb i; omega
    | ⟨1, _⟩ => show (0 + 1) * 1024 ≤ 2048; decide
    | ⟨2, _⟩ => show (0 + 1) * 2048 ≤ 2048; decide
  · exact .inl (.inr ⟨by decide, rfl, .inl ⟨⟨0, rfl⟩, ⟨512, rfl⟩⟩⟩)
  · match a with
    | ⟨0, _⟩ => show ((be pf i).toNat + 1) * 1 ≤ 32; have := hb i; omega
    | ⟨1, _⟩ => show (0 + 1) * 1 ≤ 1; decide
    | ⟨2, _⟩ => show (0 + 1) * 2048 ≤ 2048; decide
  · rw [index7 pf hg i]
    match a with
    | ⟨0, _⟩ => show (min (i 0).val ((nb pf).toNat - 1) + 1) * 512 ≤ 81920; have := hi i; omega
    | ⟨1, _⟩ => show (0 + 1) * 2048 ≤ 2048; decide

/-- The tables as the call pins them. -/
abbrev adm : (pcfg0 (F := F)).Adm := ⟨pf, ok_of_good pf hg⟩

end Cert.ExpertsIdeal.Tables
-- ==== Proof.ExpertsRun.lean ====
module

public import proofs.«01_k».proof.Proof.ExpertsTables
public import proofs.«01_k».proof.Proof.Gen.Experts.Launch
public import proofs.«01_k».proof.Proof.Gen.ExpertsRefIdeal.Run
public import proofs.«01_k».proof.Proof.Gen.Pre_tables_in_range
public import proofs.«01_k».proof.Proof.Gen.On_token_rows
public import Idealize.ShloMosaic.Lib.Pipeline.Frame
public import Idealize.ShloMosaic.Lib.Pipeline.TableIdle

/-! The run of the expert call. A token block in use leaves its expert's output; a block out of use runs
nothing, and the buffer still holds the last block's output, which the last write-back puts in that block's
place. So every block in use ends with its expert's output, for any floats and any tables in range. -/

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen Cert.ExpertsIdeal.Body Cert.ExpertsIdeal.Tables

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre0.Contents (Elt F)) (hg : Good pf)

/-- The call at these tables. -/
abbrev cf : Pipeline.Cfg sig Λ₀ := cfg0 (adm pf hg)

/-- Window `w`'s block at point `t`. -/
def blkOf (c : Dev nD) (w : Fin (cf pf hg).W) (t : Fin (cf pf hg).N) :
    (((cf pf hg).win w).xblock ((cf pf hg).grid.coords t)).Idx → Elt F ((cf pf hg).win w).elt :=
  (((cf pf hg).win w).blk t).view.read (Elt F) (V c (Pipeline.arrRef spec0 w))

/-- The output of a token block whose first token is in row `v`. -/
def outOf (v : BitVec 32) (x : Vec F S512x1024 .i32) (g u : Vec F S1x2048x1024 .bf16) (bg bu : Vec F S1x1x1024 .f32)
    (d : Vec F S1x1024x2048 .bf16) (bd : Vec F S1x1x2048 .f32) : Vec F S512x2048 .f32 :=
  if v.toNat < 128 then out1 v x g u bg bu d bd else if v.toNat < 256 then out2 v x g u bg bu d bd
  else if v.toNat < 384 then out3 v x g u bg bu d bd else out4 v x g u bg bu d bd

/-- The last token block in use, as far as `t`. -/
def last (t : Fin (cf pf hg).N) : Fin (cf pf hg).N :=
  ⟨min t.val ((nb pf).toNat - 1), lt_of_le_of_lt (min_le_left _ _) t.isLt⟩

/-- The output of the token block at `t`. -/
def made (c : Dev nD) (t : Fin (cf pf hg).N) : Vec F S512x2048 .f32 :=
  outOf (fv pf (grid0.coords t)) (blkOf V pf hg c 0 t) (blkOf V pf hg c 1 t) (blkOf V pf hg c 2 t) (blkOf V pf hg c 3 t)
    (blkOf V pf hg c 4 t) (blkOf V pf hg c 5 t) (blkOf V pf hg c 6 t)

/-- The call's data. -/
def data (c : Dev nD) : Dat τ (Elt F) Unit ℕ (UR sig nD τ) ℕ (cf pf hg) c where
  A w := V c (Pipeline.arrRef spec0 w)
  after w t := match w with
    | ⟨0, _⟩ => blkOf V pf hg c 0 t
    | ⟨1, _⟩ => blkOf V pf hg c 1 t
    | ⟨2, _⟩ => blkOf V pf hg c 2 t
    | ⟨3, _⟩ => blkOf V pf hg c 3 t
    | ⟨4, _⟩ => blkOf V pf hg c 4 t
    | ⟨5, _⟩ => blkOf V pf hg c 5 t
    | ⟨6, _⟩ => blkOf V pf hg c 6 t
    | ⟨7, _⟩ => made V pf hg c (last pf hg t)
  Φ _ := iprop(Pipeline.ΦA spec0 c ∗ Pipeline.ΦT pre0 pf c)
  q w := Pipeline.shareOf spec0 w
  owed _ := 0

theorem entry (c : Dev nD) (w : Fin (cf pf hg).W) : (data V pf hg c).A w = V c (Pipeline.arrRef spec0 w) := by
  dsimp only [data]
theorem after_0 (c : Dev nD) (t : Fin (cf pf hg).N) : (data V pf hg c).after 0 t = blkOf V pf hg c 0 t := rfl
theorem after_1 (c : Dev nD) (t : Fin (cf pf hg).N) : (data V pf hg c).after 1 t = blkOf V pf hg c 1 t := rfl
theorem after_2 (c : Dev nD) (t : Fin (cf pf hg).N) : (data V pf hg c).after 2 t = blkOf V pf hg c 2 t := rfl
theorem after_3 (c : Dev nD) (t : Fin (cf pf hg).N) : (data V pf hg c).after 3 t = blkOf V pf hg c 3 t := rfl
theorem after_4 (c : Dev nD) (t : Fin (cf pf hg).N) : (data V pf hg c).after 4 t = blkOf V pf hg c 4 t := rfl
theorem after_5 (c : Dev nD) (t : Fin (cf pf hg).N) : (data V pf hg c).after 5 t = blkOf V pf hg c 5 t := rfl
theorem after_6 (c : Dev nD) (t : Fin (cf pf hg).N) : (data V pf hg c).after 6 t = blkOf V pf hg c 6 t := rfl
theorem after_7 (c : Dev nD) (t : Fin (cf pf hg).N) : (data V pf hg c).after 7 t = made V pf hg c (last pf hg t) := rfl
theorem before_0 (c : Dev nD) (t : Fin (cf pf hg).N) (d) : (data V pf hg c).before 0 t d = blkOf V pf hg c 0 t :=
  ((data V pf hg c).before_in_eq_fetched 0 rfl (fun _ => rfl) (fun _ _ _ => rfl)
    (fun t => by rw [after_0]; unfold Dat.blockOf blkOf; rw [entry]; try rfl) t d).trans
    (by unfold Dat.fetched Dat.blockOf blkOf; rw [entry]; try rfl)
theorem before_1 (c : Dev nD) (t : Fin (cf pf hg).N) (d) : (data V pf hg c).before 1 t d = blkOf V pf hg c 1 t :=
  ((data V pf hg c).before_in_eq_fetched 1 rfl (fun _ => rfl) (fun _ _ _ => rfl)
    (fun t => by rw [after_1]; unfold Dat.blockOf blkOf; rw [entry]; try rfl) t d).trans
    (by unfold Dat.fetched Dat.blockOf blkOf; rw [entry]; try rfl)
theorem before_2 (c : Dev nD) (t : Fin (cf pf hg).N) (d) : (data V pf hg c).before 2 t d = blkOf V pf hg c 2 t :=
  ((data V pf hg c).before_in_eq_fetched 2 rfl (fun _ => rfl) (fun _ _ _ => rfl)
    (fun t => by rw [after_2]; unfold Dat.blockOf blkOf; rw [entry]; try rfl) t d).trans
    (by unfold Dat.fetched Dat.blockOf blkOf; rw [entry]; try rfl)
theorem before_3 (c : Dev nD) (t : Fin (cf pf hg).N) (d) : (data V pf hg c).before 3 t d = blkOf V pf hg c 3 t :=
  ((data V pf hg c).before_in_eq_fetched 3 rfl (fun _ => rfl) (fun _ _ _ => rfl)
    (fun t => by rw [after_3]; unfold Dat.blockOf blkOf; rw [entry]; try rfl) t d).trans
    (by unfold Dat.fetched Dat.blockOf blkOf; rw [entry]; try rfl)
theorem before_4 (c : Dev nD) (t : Fin (cf pf hg).N) (d) : (data V pf hg c).before 4 t d = blkOf V pf hg c 4 t :=
  ((data V pf hg c).before_in_eq_fetched 4 rfl (fun _ => rfl) (fun _ _ _ => rfl)
    (fun t => by rw [after_4]; unfold Dat.blockOf blkOf; rw [entry]; try rfl) t d).trans
    (by unfold Dat.fetched Dat.blockOf blkOf; rw [entry]; try rfl)
theorem before_5 (c : Dev nD) (t : Fin (cf pf hg).N) (d) : (data V pf hg c).before 5 t d = blkOf V pf hg c 5 t :=
  ((data V pf hg c).before_in_eq_fetched 5 rfl (fun _ => rfl) (fun _ _ _ => rfl)
    (fun t => by rw [after_5]; unfold Dat.blockOf blkOf; rw [entry]; try rfl) t d).trans
    (by unfold Dat.fetched Dat.blockOf blkOf; rw [entry]; try rfl)
theorem before_6 (c : Dev nD) (t : Fin (cf pf hg).N) (d) : (data V pf hg c).before 6 t d = blkOf V pf hg c 6 t :=
  ((data V pf hg c).before_in_eq_fetched 6 rfl (fun _ => rfl) (fun _ _ _ => rfl)
    (fun t => by rw [after_6]; unfold Dat.blockOf blkOf; rw [entry]; try rfl) t d).trans
    (by unfold Dat.fetched Dat.blockOf blkOf; rw [entry]; try rfl)

/-! ### Which points store, and what an idle point finds -/

theorem at_coord (t : Fin grid0.N) : (grid0.coords t 0).val = t.val := by
  have ht : t.val < 160 := Nat.lt_of_lt_of_eq t.isLt N_0
  have e : (grid0.coords t 0).val = t.val / 1 % 160 := Pipeline.Grid.coords_val t 0 (by decide) rfl
  omega

theorem first_word (i : grid0.Coords) : pf.atD 2 (k0_off1 i) = fv pf i :=
  (dif_pos fun a => by
    match a with
    | ⟨0, _⟩ => exact (show (k0_off1 i 0) < 160 from by rw [k0_off1_eq]; exact (i 0).isLt)).trans
    (congrArg (pf 2) (funext fun a => by
      match a with
      | ⟨0, _⟩ => exact Fin.ext rfl))
theorem count_word : pf.atD 1 ![0] = nb pf :=
  (dif_pos fun a => by
    match a with
    | ⟨0, _⟩ => exact Nat.one_pos).trans
    (congrArg (pf 1) (funext fun a => by
      match a with
      | ⟨0, _⟩ => exact Fin.ext rfl))

theorem idle_word (t : Fin (cf pf hg).N) : (cf pf hg).idle 7 ((cf pf hg).grid.coords t) =
    (!(k0_cond1 (grid0.coords t) (fv pf (grid0.coords t)) (nb pf) == 1#1) && !(k0_cond2 (grid0.coords t) (fv pf (grid0.coords t)) (nb pf) == 1#1)
      && !(k0_cond3 (grid0.coords t) (fv pf (grid0.coords t)) (nb pf) == 1#1) && !(k0_cond4 (grid0.coords t) (fv pf (grid0.coords t)) (nb pf) == 1#1)) := by
  rw [← first_word, ← count_word]; rfl

include hg in
theorem if1 (t : Fin grid0.N) : k0_cond1 (grid0.coords t) (fv pf (grid0.coords t)) (nb pf) = 1#1
    ↔ t.val < (nb pf).toNat ∧ 0 ≤ (fv pf (grid0.coords t)).toNat ∧ (fv pf (grid0.coords t)).toNat < 128 := by
  rw [cond1_iff _ _ _ (hg.first _) hg.pos, at_coord]
include hg in
theorem if2 (t : Fin grid0.N) : k0_cond2 (grid0.coords t) (fv pf (grid0.coords t)) (nb pf) = 1#1
    ↔ t.val < (nb pf).toNat ∧ 128 ≤ (fv pf (grid0.coords t)).toNat ∧ (fv pf (grid0.coords t)).toNat < 256 := by
  rw [cond2_iff _ _ _ (hg.first _) hg.pos, at_coord]
include hg in
theorem if3 (t : Fin grid0.N) : k0_cond3 (grid0.coords t) (fv pf (grid0.coords t)) (nb pf) = 1#1
    ↔ t.val < (nb pf).toNat ∧ 256 ≤ (fv pf (grid0.coords t)).toNat ∧ (fv pf (grid0.coords t)).toNat < 384 := by
  rw [cond3_iff _ _ _ (hg.first _) hg.pos, at_coord]
include hg in
theorem if4 (t : Fin grid0.N) : k0_cond4 (grid0.coords t) (fv pf (grid0.coords t)) (nb pf) = 1#1
    ↔ t.val < (nb pf).toNat ∧ 384 ≤ (fv pf (grid0.coords t)).toNat ∧ (fv pf (grid0.coords t)).toNat < 512 := by
  rw [cond4_iff _ _ _ (hg.first _) hg.pos, at_coord]

theorem idle_of_unused (t : Fin (cf pf hg).N) (h : ¬ t.val < (nb pf).toNat) :
    (cf pf hg).idle 7 ((cf pf hg).grid.coords t) = true := by
  rw [idle_word, beq_eq_false_iff_ne.mpr fun e => h ((if1 pf hg t).mp e).1, beq_eq_false_iff_ne.mpr fun e => h ((if2 pf hg t).mp e).1,
    beq_eq_false_iff_ne.mpr fun e => h ((if3 pf hg t).mp e).1, beq_eq_false_iff_ne.mpr fun e => h ((if4 pf hg t).mp e).1]
  rfl
theorem live_of_used (t : Fin (cf pf hg).N) (h : t.val < (nb pf).toNat) :
    (cf pf hg).idle 7 ((cf pf hg).grid.coords t) = false := by
  have hv : (fv pf (grid0.coords t)).toNat < 512 := hg.first _
  rw [idle_word]
  by_cases h1 : (fv pf (grid0.coords t)).toNat < 128
  · rw [(if1 pf hg t).mpr ⟨h, Nat.zero_le _, h1⟩]; rfl
  by_cases h2 : (fv pf (grid0.coords t)).toNat < 256
  · rw [(if2 pf hg t).mpr ⟨h, by omega, h2⟩]; simp
  by_cases h3 : (fv pf (grid0.coords t)).toNat < 384
  · rw [(if3 pf hg t).mpr ⟨h, by omega, h3⟩]; simp
  · rw [(if4 pf hg t).mpr ⟨h, by omega, hv⟩]; simp

theorem index_7 (t : Fin (cf pf hg).N) : ((cf pf hg).win 7).index t = ![min t.val ((nb pf).toNat - 1), 0] :=
  (index7 pf hg (grid0.coords t)).trans (by rw [at_coord])
theorem last_of_used (t : Fin (cf pf hg).N) (h : t.val < (nb pf).toNat) : last pf hg t = t :=
  Fin.ext (by show min t.val ((nb pf).toNat - 1) = t.val; omega)
theorem last_of_unused (s t : Fin (cf pf hg).N) (hs : s.val + 1 = t.val) (h : ¬ t.val < (nb pf).toNat) :
    last pf hg s = last pf hg t :=
  Fin.ext (by show min s.val ((nb pf).toNat - 1) = min t.val ((nb pf).toNat - 1); omega)

/-- The point before a block out of use writes nothing back. -/
theorem no_flush (s t : Fin (cf pf hg).N) (hs : s.val + 1 = t.val) (h : ¬ t.val < (nb pf).toNat) :
    ((cf pf hg).win 7).flush s = false := by
  have hN := t.isLt
  rw [Bool.eq_false_iff]
  intro e
  unfold Window.flush at e
  rw [Bool.and_eq_true, Bool.or_eq_true, decide_eq_true_eq, decide_eq_true_eq] at e
  rcases e.2 with h1 | ⟨h1, h2⟩
  · have h1' : s.val + 1 = (cf pf hg).N := h1
    omega
  · refine h2 ?_
    rw [index_7, index_7]
    show ![min (s.val + 1) ((nb pf).toNat - 1), 0] = _
    have : min (s.val + 1) ((nb pf).toNat - 1) = min s.val ((nb pf).toNat - 1) := by omega
    rw [this]

/-- At a block out of use the buffer holds the last block's output. -/
theorem before_7_of (c : Dev nD) (n : ℕ) : ∀ t : Fin (cf pf hg).N, t.val = n → ¬ t.val < (nb pf).toNat →
    ∀ d, (data V pf hg c).before 7 t d = made V pf hg c (last pf hg t) := by
  induction n with
  | zero => intro t h ht; exact absurd hg.some (by omega)
  | succ n ih =>
    intro t h ht d
    have hs : t.val - 1 < (cf pf hg).N := Nat.lt_of_le_of_lt (Nat.sub_le _ _) t.isLt
    have hst : t.val - 1 + 1 = t.val := by omega
    have hl := last_of_unused pf hg ⟨t.val - 1, hs⟩ t hst ht
    rw [(data V pf hg c).before_of_pos 7 t (by omega) (((cf pf hg).win 7).fetch_out rfl t),
      no_flush pf hg ⟨t.val - 1, hs⟩ t hst ht, if_neg Bool.false_ne_true]
    unfold Dat.left
    by_cases hz : t.val - 1 < (nb pf).toNat
    · rw [live_of_used pf hg ⟨t.val - 1, hs⟩ hz]
      show (data V pf hg c).kept 7 ⟨t.val - 1, hs⟩ d = _
      unfold Dat.kept
      rw [Pipeline.fill_of_clip_none 7 _ (fun _ => rfl) d ((data V pf hg c).after 7 _), Window.fill_cut, after_7, hl]
    · rw [idle_of_unused pf hg ⟨t.val - 1, hs⟩ hz]
      exact (ih ⟨t.val - 1, hs⟩ (by show t.val - 1 = n; omega) hz d).trans (by rw [hl])
theorem before_7 (c : Dev nD) (t : Fin (cf pf hg).N) (ht : ¬ t.val < (nb pf).toNat) (d) :
    (data V pf hg c).before 7 t d = made V pf hg c (last pf hg t) := before_7_of V pf hg c t.val t rfl ht d

/-! ### The body at a point -/

abbrev st_0 (t : Fin (cf pf hg).N) := ((cf pf hg).win 0).stage ((cf pf hg).slots t 0)
abbrev st_1 (t : Fin (cf pf hg).N) := ((cf pf hg).win 1).stage ((cf pf hg).slots t 1)
abbrev st_2 (t : Fin (cf pf hg).N) := ((cf pf hg).win 2).stage ((cf pf hg).slots t 2)
abbrev st_3 (t : Fin (cf pf hg).N) := ((cf pf hg).win 3).stage ((cf pf hg).slots t 3)
abbrev st_4 (t : Fin (cf pf hg).N) := ((cf pf hg).win 4).stage ((cf pf hg).slots t 4)
abbrev st_5 (t : Fin (cf pf hg).N) := ((cf pf hg).win 5).stage ((cf pf hg).slots t 5)
abbrev st_6 (t : Fin (cf pf hg).N) := ((cf pf hg).win 6).stage ((cf pf hg).slots t 6)
abbrev st_7 (t : Fin (cf pf hg).N) := ((cf pf hg).win 7).stage ((cf pf hg).slots t 7)

/-- The body as it runs at point `t`. -/
abbrev bodyAt (t : Fin (cf pf hg).N) :=
  cc0_experts_0 (F := F) (grid0.coords t) (Memref.whole main_arg0) (Memref.isWhole_whole _) (Memref.whole main_arg1) (Memref.isWhole_whole _)
    (Memref.whole main_arg2) (Memref.isWhole_whole _) (st_0 pf hg t) (hstage0_0 (((cf pf hg).slots t 0).cast nbuf0_0)) (st_1 pf hg t) (hstage0_1 (((cf pf hg).slots t 1).cast nbuf0_1)) (st_2 pf hg t) (hstage0_2 (((cf pf hg).slots t 2).cast nbuf0_2)) (st_3 pf hg t) (hstage0_3 (((cf pf hg).slots t 3).cast nbuf0_3)) (st_4 pf hg t) (hstage0_4 (((cf pf hg).slots t 4).cast nbuf0_4)) (st_5 pf hg t) (hstage0_5 (((cf pf hg).slots t 5).cast nbuf0_5)) (st_6 pf hg t) (hstage0_6 (((cf pf hg).slots t 6).cast nbuf0_6)) (st_7 pf hg t) (hstage0_7 (((cf pf hg).slots t 7).cast nbuf0_7))

theorem leaves7 (c : Dev nD) (t : Fin (cf pf hg).N) :
    (owns (c : Thread nD τ) (st_7 pf hg t) fullShare (made V pf hg c (last pf hg t)) : sProp 𝕄) ⊢ (data V pf hg c).leavesExact 7 t := by
  unfold Dat.leavesExact
  by_cases h : t.val < (nb pf).toNat
  · rw [live_of_used pf hg t h, after_7]
  · rw [idle_of_unused pf hg t h]
    cases ((cf pf hg).win 7).flush t
    · simp only [before_7 V pf hg c t h]
      iintro H; iexists (fun _ => Classical.arbitrary _); iexact H
    · simp only [after_7]; exact .rfl

theorem held_of (c : Dev nD) (q : PosShare TreeShare) (f0 : Vec F S160 .i32) (f1 : Vec F S1 .i32) (f2 : Vec F S160 .i32) :
    (iprop((((c : Thread nD τ).loc main_arg0) ↦{q} f0) ∗ (((c : Thread nD τ).loc main_arg1) ↦{q} f1)
      ∗ (((c : Thread nD τ).loc main_arg2) ↦{q} f2)) : sProp 𝕄) =
    iprop(owns (c : Thread nD τ) (Memref.whole main_arg0) q f0 ∗ owns (c : Thread nD τ) (Memref.whole main_arg1) q f1
      ∗ owns (c : Thread nD τ) (Memref.whole main_arg2) q f2) :=
  congr (congrArg _ (owns_whole (c : Thread nD τ) main_arg0 q f0).symm)
    (congr (congrArg _ (owns_whole (c : Thread nD τ) main_arg1 q f1).symm) (owns_whole (c : Thread nD τ) main_arg2 q f2).symm)
/-- The halves of the tables the body reads. -/
theorem held (c : Dev nD) : (Pipeline.ΦT pre0 pf c : sProp 𝕄) =
    iprop(owns (c : Thread nD τ) (Memref.whole main_arg0) fullShare.right (pf 0)
      ∗ owns (c : Thread nD τ) (Memref.whole main_arg1) fullShare.right (pf 1)
      ∗ owns (c : Thread nD τ) (Memref.whole main_arg2) fullShare.right (pf 2)) := by
  unfold Pipeline.ΦT Pipeline.prefHeld
  exact (bigSep_univ_eq_bigSepL [(0 : Fin 3), (1 : Fin 3), (2 : Fin 3)] (by decide) (by decide) _).trans
    (held_of c fullShare.right (pf 0) (pf 1) (pf 2))

def pre (c : Dev nD) (t : Fin (cf pf hg).N) : sProp 𝕄 :=
  iprop((data V pf hg c).Φ t.castSucc ∗ (data V pf hg c).owesAt () t.castSucc
    ∗ (∃ d, owns (c : Thread nD τ) (st_0 pf hg t) fullShare ((data V pf hg c).before 0 t d))
    ∗ (∃ d, owns (c : Thread nD τ) (st_1 pf hg t) fullShare ((data V pf hg c).before 1 t d))
    ∗ (∃ d, owns (c : Thread nD τ) (st_2 pf hg t) fullShare ((data V pf hg c).before 2 t d))
    ∗ (∃ d, owns (c : Thread nD τ) (st_3 pf hg t) fullShare ((data V pf hg c).before 3 t d))
    ∗ (∃ d, owns (c : Thread nD τ) (st_4 pf hg t) fullShare ((data V pf hg c).before 4 t d))
    ∗ (∃ d, owns (c : Thread nD τ) (st_5 pf hg t) fullShare ((data V pf hg c).before 5 t d))
    ∗ (∃ d, owns (c : Thread nD τ) (st_6 pf hg t) fullShare ((data V pf hg c).before 6 t d))
    ∗ (∃ d, owns (c : Thread nD τ) (st_7 pf hg t) fullShare ((data V pf hg c).before 7 t d)))
def post (c : Dev nD) (t : Fin (cf pf hg).N) : sProp 𝕄 :=
  iprop((data V pf hg c).Φ t.succ ∗ (data V pf hg c).owesAt () t.succ
    ∗ owns (c : Thread nD τ) (st_0 pf hg t) fullShare ((data V pf hg c).after 0 t)
    ∗ owns (c : Thread nD τ) (st_1 pf hg t) fullShare ((data V pf hg c).after 1 t)
    ∗ owns (c : Thread nD τ) (st_2 pf hg t) fullShare ((data V pf hg c).after 2 t)
    ∗ owns (c : Thread nD τ) (st_3 pf hg t) fullShare ((data V pf hg c).after 3 t)
    ∗ owns (c : Thread nD τ) (st_4 pf hg t) fullShare ((data V pf hg c).after 4 t)
    ∗ owns (c : Thread nD τ) (st_5 pf hg t) fullShare ((data V pf hg c).after 5 t)
    ∗ owns (c : Thread nD τ) (st_6 pf hg t) fullShare ((data V pf hg c).after 6 t)
    ∗ (data V pf hg c).leavesExact 7 t)

set_option maxHeartbeats 1600000 in
theorem triple (c : Dev nD) (t : Fin (cf pf hg).N) :
    pre V pf hg c t ⊢ wp frame (wpE (defs₀ (F := F)) Variants.none c none) Set.univ (bodyAt pf hg t) (fun _ => post V pf hg c t) := by
  unfold pre post bodyAt
  simp only [before_0, before_1, before_2, before_3, before_4, before_5, before_6]
  rw [show (data V pf hg c).Φ t.succ = iprop(Pipeline.ΦA spec0 c ∗ Pipeline.ΦT pre0 pf c) from rfl,
    show (data V pf hg c).Φ t.castSucc = iprop(Pipeline.ΦA spec0 c ∗ Pipeline.ΦT pre0 pf c) from rfl,
    show (data V pf hg c).owesAt () t.succ = (data V pf hg c).owesAt () t.castSucc from rfl,
    after_0, after_1, after_2, after_3, after_4, after_5, after_6, held]
  have hl7 := leaves7 V pf hg c t
  have hv : (fv pf (grid0.coords t)).toNat < 512 := hg.first _
  by_cases hu : t.val < (nb pf).toNat
  · have hm : made V pf hg c (last pf hg t) = made V pf hg c t := by rw [last_of_used pf hg t hu]
    rw [hm] at hl7
    unfold made outOf at hl7
    by_cases h1 : (fv pf (grid0.coords t)).toNat < 128
    · rw [if_pos h1] at hl7
      iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body1 c Set.univ (grid0.coords t) _ _ _ _ _ _ _ _ _ _ _ _ _ _ _ _ _ _ _ _ _ _ fullShare.right (pf 1) (pf 2) ((if1 pf hg t).mpr ⟨hu, by omega, by omega⟩) (fun e => by have := (if2 pf hg t).mp e; omega) (fun e => by have := (if3 pf hg t).mp e; omega) (fun e => by have := (if4 pf hg t).mp e; omega)
        (blkOf V pf hg c 0 t) (blkOf V pf hg c 1 t) (blkOf V pf hg c 2 t) (blkOf V pf hg c 3 t) (blkOf V pf hg c 4 t) (blkOf V pf hg c 5 t) (blkOf V pf hg c 6 t) _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨HT1, HT2, H0, H1, H2, H3, H4, H5, H6, H7⟩
      isplitl [HA HT0 HT1 HT2]
      · isplitl [HA]; · iexact HA
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply hl7; iexact H7
    by_cases h2 : (fv pf (grid0.coords t)).toNat < 256
    · rw [if_neg h1, if_pos h2] at hl7
      iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body2 c Set.univ (grid0.coords t) _ _ _ _ _ _ _ _ _ _ _ _ _ _ _ _ _ _ _ _ _ _ fullShare.right (pf 1) (pf 2) (fun e => by have := (if1 pf hg t).mp e; omega) ((if2 pf hg t).mpr ⟨hu, by omega, by omega⟩) (fun e => by have := (if3 pf hg t).mp e; omega) (fun e => by have := (if4 pf hg t).mp e; omega)
        (blkOf V pf hg c 0 t) (blkOf V pf hg c 1 t) (blkOf V pf hg c 2 t) (blkOf V pf hg c 3 t) (blkOf V pf hg c 4 t) (blkOf V pf hg c 5 t) (blkOf V pf hg c 6 t) _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨HT1, HT2, H0, H1, H2, H3, H4, H5, H6, H7⟩
      isplitl [HA HT0 HT1 HT2]
      · isplitl [HA]; · iexact HA
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply hl7; iexact H7
    by_cases h3 : (fv pf (grid0.coords t)).toNat < 384
    · rw [if_neg h1, if_neg h2, if_pos h3] at hl7
      iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body3 c Set.univ (grid0.coords t) _ _ _ _ _ _ _ _ _ _ _ _ _ _ _ _ _ _ _ _ _ _ fullShare.right (pf 1) (pf 2) (fun e => by have := (if1 pf hg t).mp e; omega) (fun e => by have := (if2 pf hg t).mp e; omega) ((if3 pf hg t).mpr ⟨hu, by omega, by omega⟩) (fun e => by have := (if4 pf hg t).mp e; omega)
        (blkOf V pf hg c 0 t) (blkOf V pf hg c 1 t) (blkOf V pf hg c 2 t) (blkOf V pf hg c 3 t) (blkOf V pf hg c 4 t) (blkOf V pf hg c 5 t) (blkOf V pf hg c 6 t) _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨HT1, HT2, H0, H1, H2, H3, H4, H5, H6, H7⟩
      isplitl [HA HT0 HT1 HT2]
      · isplitl [HA]; · iexact HA
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply hl7; iexact H7
    · rw [if_neg h1, if_neg h2, if_neg h3] at hl7
      iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body4 c Set.univ (grid0.coords t) _ _ _ _ _ _ _ _ _ _ _ _ _ _ _ _ _ _ _ _ _ _ fullShare.right (pf 1) (pf 2) (fun e => by have := (if1 pf hg t).mp e; omega) (fun e => by have := (if2 pf hg t).mp e; omega) (fun e => by have := (if3 pf hg t).mp e; omega) ((if4 pf hg t).mpr ⟨hu, by omega, by omega⟩)
        (blkOf V pf hg c 0 t) (blkOf V pf hg c 1 t) (blkOf V pf hg c 2 t) (blkOf V pf hg c 3 t) (blkOf V pf hg c 4 t) (blkOf V pf hg c 5 t) (blkOf V pf hg c 6 t) _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨HT1, HT2, H0, H1, H2, H3, H4, H5, H6, H7⟩
      isplitl [HA HT0 HT1 HT2]
      · isplitl [HA]; · iexact HA
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply hl7; iexact H7
  · simp only [before_7 V pf hg c t hu]
    iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyIdle c Set.univ (grid0.coords t) _ _ _ _ _ _ _ _ _ _ _ _ _ _ _ _ _ _ _ _ _ _ fullShare.right (pf 1) (pf 2) (fun e => by have := (if1 pf hg t).mp e; omega) (fun e => by have := (if2 pf hg t).mp e; omega) (fun e => by have := (if3 pf hg t).mp e; omega) (fun e => by have := (if4 pf hg t).mp e; omega)
      (blkOf V pf hg c 0 t) (blkOf V pf hg c 1 t) (blkOf V pf hg c 2 t) (blkOf V pf hg c 3 t) (blkOf V pf hg c 4 t) (blkOf V pf hg c 5 t) (blkOf V pf hg c 6 t) (made V pf hg c (last pf hg t)) _)
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨HT1, HT2, H0, H1, H2, H3, H4, H5, H6, H7⟩
    isplitl [HA HT0 HT1 HT2]
    · isplitl [HA]; · iexact HA
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hl7; iexact H7

theorem obligation (c : Dev nD) :
    BodyObligation (data (F := F) V pf hg c) (defs₀ (F := F)) Variants.none () Set.univ := fun t => by
  rw [bigSep_W0, bigSep_W0, show defs₀ (F := F) .tc (cf pf hg).body ((cf pf hg).bodyArgs t ((cf pf hg).slots t)) = bodyAt pf hg t from by
    unfold defs₀; rw [Defs.onTc_tc]; rfl]
  exact triple_restated (triple V pf hg c t) rfl .rfl fun _ => .rfl

/-! ### The run -/

/-- The tables in a memory. -/
def tabs (m : (ℓ : Loc nD τ sig) → Buf (Elt F) ℓ) : pre0.Contents (Elt F) := fun k => m (((0 : Dev nD).tc : Thread nD τ).loc (pre0.ref k))

/-- A memory's arrays. -/
abbrev mem (m : (ℓ : Loc nD τ sig) → Buf (Elt F) ℓ) : (c : Dev nD) → (b : Ref sig .tc) → Buf (Elt F) ((c : Thread nD τ).loc b) :=
  fun c b => m ((c.tc : Thread nD τ).loc b)

set_option backward.isDefEq.respectTransparency.types false in
/-- The run: the result at what the write-backs leave, the arguments as launched, every counter at zero. -/
theorem run_main (m : (ℓ : Loc nD τ sig) → Buf (Elt F) ℓ) (ρ : Dev nD → PrngReg) (hg : Good (tabs m)) :
    θ_run defs (onTc (τ := τ) (main (F := F))) ⟨m, fun _ => 0, ρ⟩ (fun r => (∀ c : Dev nD,
      r.2.mem ((c.tc : Thread nD τ).loc main_v0) = (data (mem m) (tabs m) hg c).arrAt 7 (cf (tabs m) hg).N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7))
      ∧ r.2.sem = fun _ => 0) := by
  have h := Pipeline.θ_run_frameP_shared (Q' := fun r => Pipeline.FramePost (Pipeline.pin (pcfgs (F := F)) fun _ => adm (tabs m) hg)
      (fun _ => data (mem m) (tabs m) hg) 0 (mem m) r ∧ r.2.sem = fun _ => 0)
    (pcfgs (F := F)) (fun _ => adm (tabs m) hg) (fun _ => data (mem m) (tabs m) hg) (0 : Fin 1) launch₀0 defs₀ Variants.none m ρ main
    (hbody := fun c => (obligation (mem m) (tabs m) hg c).loose) (hq := fun _ _ _ => rfl) (howed := fun _ _ => rfl) (V := mem m)
    (hmain := Pipeline.hmainP_region (pcfgs (F := F)) 0 defs₀ Variants.none m main fun c => main_chain c)
    (hA := entry (mem m) (tabs m) hg) (hpf := fun c k => by match c with | ⟨0, _⟩ => rfl) (hΦ := fun _ _ => rfl)
  refine (θ_run defs _ _).mono (fun r h => ⟨fun c => ?_, h.2⟩) h
  have hc := h.1 c
  exact ⟨hc.1 7,
    (hc.2 main_arg0 (Pipeline.mem_restRefs_of main_arg0 (by decide) (show ∀ w : Fin 8, (spec0 w).arr.view.ref ≠ main_arg0 from by decide))),
    (hc.2 main_arg1 (Pipeline.mem_restRefs_of main_arg1 (by decide) (show ∀ w : Fin 8, (spec0 w).arr.view.ref ≠ main_arg1 from by decide))),
    (hc.2 main_arg2 (Pipeline.mem_restRefs_of main_arg2 (by decide) (show ∀ w : Fin 8, (spec0 w).arr.view.ref ≠ main_arg2 from by decide))),
    (hc.1 0).trans ((data (mem m) (tabs m) hg c).arrAt_in 0 rfl _),
    (hc.1 1).trans ((data (mem m) (tabs m) hg c).arrAt_in 1 rfl _),
    (hc.1 3).trans ((data (mem m) (tabs m) hg c).arrAt_in 3 rfl _),
    (hc.1 5).trans ((data (mem m) (tabs m) hg c).arrAt_in 5 rfl _),
    (hc.1 6).trans ((data (mem m) (tabs m) hg c).arrAt_in 6 rfl _)⟩

end Cert.ExpertsIdeal.Run

end
-- ==== Proof.ExpertsPre.lean ====
/- What the printed precondition and the printed mask say of the tables' words. -/
module

public import proofs.«01_k».proof.Proof.ExpertsRun
public import Idealize.ShloMosaic.Lib.Pipeline.ValueKit

@[expose] public section

set_option maxRecDepth 16384

noncomputable section

open Idealize.ShloMosaic Idealize.ShloMosaic.TcCoe

namespace Cert.ExpertsIdeal.Pre
open Cert.ExpertsIdeal Cert.ExpertsIdeal.Gen Cert.ExpertsIdeal.Body Cert.ExpertsIdeal.Tables

variable {F : FTy → Type} [FloatOps F]

theorem both (a b : BitVec 1) : IntOp.andi a b = 1#1 → a = 1#1 ∧ b = 1#1 := by revert a b; decide
theorem ge (a b : BitVec 32) (h : IntOp.cmpi CmpIPredicate.sge a b = 1#1) : b.toInt ≤ a.toInt := by
  have h : BitVec.ofBool (b.sle a) = 1#1 := h
  cases e : b.sle a with
  | false => rw [e] at h; exact absurd h (by decide)
  | true => rw [BitVec.sle_eq_decide, decide_eq_true_eq] at e; exact e
theorem lt (a b : BitVec 32) (h : IntOp.cmpi CmpIPredicate.slt a b = 1#1) : a.toInt < b.toInt := by
  have h : BitVec.ofBool (a.slt b) = 1#1 := h
  cases e : a.slt b with
  | false => rw [e] at h; exact absurd h (by decide)
  | true => rw [BitVec.slt_eq_decide, decide_eq_true_eq] at e; exact e

/-- A word that is nonnegative as a signed number is that number. -/
theorem signed (a : BitVec 32) (h : 0 ≤ a.toInt) : (a.toNat : Int) = a.toInt ∧ a.toNat < 2 ^ 31 := by
  rw [BitVec.toInt_eq_toNat_cond] at h ⊢
  have := a.isLt
  split at h <;> split <;> omega

theorem words (a0 : IVec S160 32) (a1 : IVec S1 32) (a2 : IVec S160 32) (a3 : IVec S81920x1024 32) (a4) (a5) (a6) (a7) (t : Fin 160)
    (h : Cert.Pre_tables_in_range.fn (F := F) a0 a1 a2 a3 a4 a5 a6 a7 (ix1 t) = 1#1) :
    (a0 (ix1 t)).toNat < 32 ∧ 1 ≤ (a1 (ix1 0)).toNat ∧ (a1 (ix1 0)).toNat < 2 ^ 31 ∧ (a2 (ix1 t)).toNat < 512 := by
  revert h
  pointwise [Cert.Pre_tables_in_range.fn]
  intro h
  obtain ⟨h, h5⟩ := both _ _ h
  obtain ⟨h, h4⟩ := both _ _ h
  obtain ⟨h, h3⟩ := both _ _ h
  obtain ⟨h1, h2⟩ := both _ _ h
  have e1 : (0 : Int) ≤ (a0 (ix1 t)).toInt := ge _ _ h1
  have e2 : (a0 (ix1 t)).toInt < 32 := lt _ _ h2
  have e3 : (1 : Int) ≤ (a1 (ix1 0)).toInt := ge _ _ h3
  have e4 : (0 : Int) ≤ (a2 (ix1 t)).toInt := ge _ _ h4
  have e5 : (a2 (ix1 t)).toInt < 512 := lt _ _ h5
  have s0 := signed _ e1
  have s1 := signed (a1 (ix1 0)) (by omega)
  have s2 := signed _ e4
  omega

/-- Where the mask is set: the row's block is in use, and the row is at or after the block's first token. -/
theorem mask (a0 : IVec S160 32) (a1 : IVec S1 32) (a2 : IVec S160 32) (a3 : IVec S81920x1024 32) (a4) (a5) (a6) (a7)
    (r : Fin 81920) (n : Fin 2048) (t : Fin 160) (y : Fin 512) (hr : r.val = t.val * 512 + y.val)
    (h1 : (a1 (ix1 0)).toNat < 2 ^ 31) (h2 : (a2 (ix1 t)).toNat < 512)
    (h : Cert.On_token_rows.fn (F := F) a0 a1 a2 a3 a4 a5 a6 a7 (ix2 r n) = 1#1) :
    t.val < (a1 (ix1 0)).toNat ∧ (a2 (ix1 t)).toNat ≤ y.val := by
  revert h
  pointwise [Cert.On_token_rows.fn]
  intro h
  have ht : (⟨r.val / 512, by omega⟩ : Fin 160) = t := Fin.ext (by show r.val / 512 = t.val; omega)
  obtain ⟨p, q⟩ := both _ _ h
  have p := lt _ _ p
  have q := ge _ _ q
  rw [ht] at q
  have c1 : (BitVec.ofNat 32 (r.val / 512)).toNat = r.val / 512 := by rw [BitVec.toNat_ofNat]; omega
  have c2 : (BitVec.ofNat 32 (r.val % 512)).toNat = r.val % 512 := by rw [BitVec.toNat_ofNat]; omega
  rw [BitVec.toInt_eq_toNat_of_lt (by omega), BitVec.toInt_eq_toNat_of_lt (by omega)] at p q
  omega

theorem fvAt_eq (b : IVec S160 32) (i : grid0.Coords) (t : Fin 160) (h : t.val = (i 0).val) : fvAt b i = b (ix1 t) := by
  refine congrArg b (funext fun a => ?_)
  match a with
  | ⟨0, _⟩ =>
    refine Fin.ext ?_
    show k0_off1 i 0 + 1 * 0 = t.val
    rw [k0_off1_eq]
    exact h.symm
theorem nbAt_eq (b : IVec S1 32) : nbAt b = b (ix1 0) := by
  refine congrArg b (funext fun a => ?_)
  match a with
  | ⟨0, _⟩ => exact Fin.ext rfl

/-- Tables that the precondition admits are in range. -/
theorem good (a0 : IVec S160 32) (a1 : IVec S1 32) (a2 : IVec S160 32) (a3 : IVec S81920x1024 32) (a4) (a5) (a6) (a7)
    (h : Cert.Pre_tables_in_range.fn (F := F) a0 a1 a2 a3 a4 a5 a6 a7 = fun _ => 1#1) (pf : pre0.Contents (Elt F))
    (h0 : pf 0 = a0) (h1 : pf 1 = a1) (h2 : pf 2 = a2) : Good pf := by
  have w (i : grid0.Coords) := words a0 a1 a2 a3 a4 a5 a6 a7 ⟨(i 0).val, (i 0).isLt⟩ (congrFun h _)
  subst h0 h1 h2
  have w0 := words _ _ _ _ _ _ _ _ 0 (congrFun h _)
  have c1 := congrArg BitVec.toNat (nbAt_eq (pf 1))
  exact ⟨fun i => lt_of_eq_of_lt (congrArg BitVec.toNat (fvAt_eq (pf 0) i ⟨(i 0).val, (i 0).isLt⟩ rfl)) (w i).1,
    le_of_le_of_eq w0.2.1 c1.symm, lt_of_eq_of_lt c1 w0.2.2.1,
    fun i => lt_of_eq_of_lt (congrArg BitVec.toNat (fvAt_eq (pf 2) i ⟨(i 0).val, (i 0).isLt⟩ rfl)) (w i).2.2.2⟩

end Cert.ExpertsIdeal.Pre

end
-- ==== Proof.ExpertsSpec.lean ====
/- One entry of an expert's output as a number, and reading one expert's block out of an array of them. -/
module

public import proofs.«01_k».proof.Proof.Words
public import Idealize.ShloMosaic.Lib.Pipeline.ValueKit
public import Idealize.ShloMosaic.Lib.StableHlo.Predicate

@[expose] public section

set_option maxRecDepth 16384

noncomputable section

open Idealize.ShloMosaic

namespace ExpertSpec

/-- A word's half as a number: the lower one for `b = 0`, the upper one for `b = 1`. -/
def half (w : BitVec 32) (b : Nat) : EReal := Ideal.ofBits .bf16 (w.extractLsb' (b * 16) 16)

/-- Entry `k` of a packed row: the lower halves first, then the upper ones. -/
def entry (w : Fin 1024 → BitVec 32) (k : Fin 2048) : EReal :=
  if h : k.val < 1024 then half (w ⟨k.val, h⟩) 0 else half (w ⟨k.val - 1024, by omega⟩) 1

/-- A packed row against a column. -/
def against (w : Fin 1024 → BitVec 32) (g : Fin 2048 → EReal) : EReal := ∑ k : Fin 2048, entry w k * g k

/-- A hidden unit of its gate's and its up projection's sums. -/
def unit (g u : EReal) : EReal :=
  (min (Ideal.ofBits .f32 1088421888#32) (max (Ideal.ofBits .f32 3235905536#32) u) + 1) * min g (Ideal.ofBits .f32 1088421888#32)
    * Ideal.div 1 (1 + Ideal.exp (0 - Ideal.ofBits .f32 1071242019#32 * min g (Ideal.ofBits .f32 1088421888#32)))

/-- One entry of an expert's output over half of its hidden units. -/
def cell (w : Fin 1024 → BitVec 32) (G U : Fin 1024 → Fin 2048 → EReal) (bg bu d : Fin 1024 → EReal) (o : EReal) : EReal :=
  o + ∑ j : Fin 1024, unit (against w (G j) + bg j) (against w (U j) + bu j) * d j

theorem against_halves (w : Fin 1024 → BitVec 32) (g : Fin 2048 → EReal) :
    against w g = (∑ k : Fin 1024, half (w k) 0 * g ⟨k.val, by omega⟩) + ∑ k : Fin 1024, half (w k) 1 * g ⟨1024 + k.val, by omega⟩ := by
  unfold against
  refine (Fin.sum_univ_add (a := 1024) (b := 1024) fun k => entry w k * g k).trans (congrArg₂ (· + ·)
    (Finset.sum_congr rfl fun k _ => congrArg₂ (· * ·) ?_ rfl) (Finset.sum_congr rfl fun k _ => congrArg₂ (· * ·) ?_ rfl))
  · exact dif_pos k.isLt
  · unfold entry
    rw [dif_neg (by show ¬ 1024 + k.val < 1024; omega)]
    exact congrArg (fun q => half (w q) 1) (Fin.ext (by show 1024 + k.val - 1024 = k.val; omega))

/-- The record of "take blocks along the first axis". -/
abbrev blocks (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A taken block is the block its index names. -/
theorem take_block {α : Type} {N R A B : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (t : Fin R) (a : Fin A) (b : Fin B) (e : Fin N)
    (he : (idx (ix2 t 0)).toInt.toNat = e.val) :
    Host.gather (blocks N R A B wf) x idx (ix3 t a b) = x (ix3 e a b) := by
  unfold Host.gather
  refine congrArg x (funext fun q => Fin.ext ?_)
  show (blocks N R A B wf).start (ix3 t a b) idx q + (blocks N R A B wf).batchCoord (ix3 t a b) q
    + (blocks N R A B wf).offCoord (ix3 t a b) q = _
  rw [GatherDims.batchCoord_eq_zero _ _ _ List.not_mem_nil, Nat.add_zero]
  have h1 : (1 : Fin 3) ∈ (blocks N R A B wf).sKept := ((blocks N R A B wf).mem_sKept 1).mpr ⟨by simp, by simp⟩
  have h2 : (2 : Fin 3) ∈ (blocks N R A B wf).sKept := ((blocks N R A B wf).mem_sKept 2).mpr ⟨by simp, by simp⟩
  match q with
  | ⟨0, _⟩ =>
    rw [GatherDims.offCoord_eq_zero _ _ _ (fun h => ((GatherDims.mem_sKept _ _).mp h).1 (List.mem_singleton.mpr rfl)), Nat.add_zero]
    unfold GatherDims.start
    have hs : (blocks N R A B wf).siIdx (ix3 t a b) ⟨List.idxOf (0 : Fin 3) (blocks N R A B wf).startIndexMap,
        List.idxOf_lt_length_iff.2 (List.mem_singleton.mpr rfl)⟩ = ix2 t 0 := by
      funext p; refine Fin.ext ?_
      match p with
      | ⟨0, _⟩ => rfl
      | ⟨1, _⟩ => rfl
    refine (dif_pos (show (0 : Fin 3) ∈ (blocks N R A B wf).startIndexMap from List.mem_singleton.mpr rfl)).trans ?_
    refine (congrArg (fun z => min (idx z).toInt.toNat (N - 1)) hs).trans ?_
    have hl := e.isLt
    show min (idx (ix2 t 0)).toInt.toNat (N - 1) = e.val
    omega
  | ⟨1, _⟩ =>
    have hn : (1 : Fin 3) ∉ (blocks N R A B wf).startIndexMap := by simp
    unfold GatherDims.start GatherDims.offCoord
    exact (congrArg₂ (· + ·) (dif_neg hn) (dif_pos h1)).trans (Nat.zero_add _)
  | ⟨2, _⟩ =>
    have hn : (2 : Fin 3) ∉ (blocks N R A B wf).startIndexMap := by simp
    unfold GatherDims.start GatherDims.offCoord
    exact (congrArg₂ (· + ·) (dif_neg hn) (dif_pos h2)).trans (Nat.zero_add _)

end ExpertSpec

end
-- ==== Proof.ExpertsRow.lean ====
/- Each of the call's four row paths computes, from the first token on, the expert's output of the row. -/
module

public import proofs.«01_k».proof.Proof.ExpertsBody
public import proofs.«01_k».proof.Proof.ExpertsSpec
public import Idealize.ShloMosaic.Lib.Tactic.WordOmega

@[expose] public section

set_option maxRecDepth 16384

noncomputable section

open Idealize.ShloMosaic Idealize.ShloMosaic.TcCoe Idealize.SL.Sem

namespace Cert.ExpertsIdeal.Row
open Cert.ExpertsIdeal Cert.ExpertsIdeal.Gen Cert.ExpertsIdeal.Body ExpertSpec

/-- A row at or after the first token keeps its words. -/
theorem keeps (r v : BitVec 32) (y : ℕ) (hy : y < 512) (hr : r.toNat + y < 512) (h : v.toNat ≤ r.toNat + y) (w : BitVec 32) :
    Scalar.select (IntOp.cmpi CmpIPredicate.sge (IntOp.addi r (BitVec.ofNat 32 y)) v) w 0#32 = w := by
  have e : (IntOp.addi r (BitVec.ofNat 32 y)).toNat = r.toNat + y := by
    show (r + BitVec.ofNat 32 y).toNat = _
    rw [BitVec.toNat_add, BitVec.toNat_ofNat]; omega
  generalize IntOp.addi r (BitVec.ofNat 32 y) = s at *
  have k : IntOp.cmpi CmpIPredicate.sge s v = 1#1 := by
    show BitVec.ofBool (v.sle s) = 1#1
    have : v.sle s = true := by
      rw [BitVec.sle_eq_decide, decide_eq_true_eq, BitVec.toInt_eq_toNat_of_lt (by omega), BitVec.toInt_eq_toNat_of_lt (by omega)]
      omega
    rw [this]; rfl
  rw [k]; rfl

/-! ### Rows from 0 on -/

theorem x1 (v : BitVec 32) (X : Vec Ideal S512x1024 .i32) (y : Fin 512) (h : v.toNat ≤ 0 + y.val) (k : Fin 2048) :
    k0_pay8 (F := Ideal) v X (ix2 y k) = entry (fun q => X (ix2 y q)) k := by
  have hy := y.isLt
  pointwise [k0_pay8]
  unfold entry
  split
  · rw [keeps 0#32 v y.val (by omega) (by show 0 + y.val < 512; omega) h]; exact Words.low _
  · rw [keeps 0#32 v y.val (by omega) (by show 0 + y.val < 512; omega) h]; exact Words.high _

theorem g1 (v : BitVec 32) (X : Vec Ideal S512x1024 .i32) (g : Vec Ideal S1x2048x1024 .bf16) (b : Vec Ideal S1x1x1024 .f32)
    (y : Fin 512) (h : v.toNat ≤ 0 + y.val) (j : Fin 1024) :
    k0_pay9 (F := Ideal) v X g b (ix2 y j)
      = min (against (fun q => X (ix2 y q)) (fun k => g (ix3 0 k j)) + b (ix3 0 0 j)) (Ideal.ofBits .f32 1088421888#32) := by
  pointwise [k0_pay9]
  refine congrArg (min · _) (congrArg (· + _) ?_)
  unfold against
  exact Finset.sum_congr rfl fun k _ => congrArg (· * _) (x1 v X y h k)

theorem u1 (v : BitVec 32) (X : Vec Ideal S512x1024 .i32) (g : Vec Ideal S1x2048x1024 .bf16) (b : Vec Ideal S1x1x1024 .f32)
    (y : Fin 512) (h : v.toNat ≤ 0 + y.val) (j : Fin 1024) :
    k0_pay10 (F := Ideal) v X g b (ix2 y j)
      = max (Ideal.ofBits .f32 3235905536#32) (against (fun q => X (ix2 y q)) (fun k => g (ix3 0 k j)) + b (ix3 0 0 j)) := by
  pointwise [k0_pay10]
  refine congrArg (max _ ·) (congrArg (· + _) ?_)
  unfold against
  exact Finset.sum_congr rfl fun k _ => congrArg (· * _) (x1 v X y h k)

theorem c1 (y : Fin 512) (j : Fin 1024) : k0_pay11 (F := Ideal) (ix2 y j) = Ideal.ofBits .f32 1088421888#32 := by
  pointwise [k0_pay11]

theorem y1 (v : BitVec 32) (X : Vec Ideal S512x1024 .i32) (g u : Vec Ideal S1x2048x1024 .bf16) (bg bu : Vec Ideal S1x1x1024 .f32)
    (d : Vec Ideal S1x1024x2048 .bf16) (o : Vec Ideal S1x1x2048 .f32) (y : Fin 512) (h : v.toNat ≤ 0 + y.val) (n : Fin 2048) :
    k0_pay1 (F := Ideal) (k0_pay9 v X g bg) (k0_pay10 v X u bu) k0_pay11 o d (ix2 y n)
      = cell (fun q => X (ix2 y q)) (fun j k => g (ix3 0 k j)) (fun j k => u (ix3 0 k j)) (fun j => bg (ix3 0 0 j))
          (fun j => bu (ix3 0 0 j)) (fun j => d (ix3 0 j n)) (o (ix3 0 0 n)) := by
  pointwise [k0_pay1]
  unfold cell
  refine congrArg (_ + ·) (Finset.sum_congr rfl fun j _ => congrArg (· * _) ?_)
  rw [g1 v X g bg y h j, u1 v X u bu y h j, c1 y j]
  rfl

/-! ### Rows from 128 on -/

theorem x2 (v : BitVec 32) (X : Vec Ideal S384x1024 .i32) (y : Fin 384) (h : v.toNat ≤ 128 + y.val) (k : Fin 2048) :
    k0_pay12 (F := Ideal) v X (ix2 y k) = entry (fun q => X (ix2 y q)) k := by
  have hy := y.isLt
  pointwise [k0_pay12]
  unfold entry
  split
  · rw [keeps 128#32 v y.val (by omega) (by show 128 + y.val < 512; omega) h]; exact Words.low _
  · rw [keeps 128#32 v y.val (by omega) (by show 128 + y.val < 512; omega) h]; exact Words.high _

theorem g2 (v : BitVec 32) (X : Vec Ideal S384x1024 .i32) (g : Vec Ideal S1x2048x1024 .bf16) (b : Vec Ideal S1x1x1024 .f32)
    (y : Fin 384) (h : v.toNat ≤ 128 + y.val) (j : Fin 1024) :
    k0_pay13 (F := Ideal) v X g b (ix2 y j)
      = min (against (fun q => X (ix2 y q)) (fun k => g (ix3 0 k j)) + b (ix3 0 0 j)) (Ideal.ofBits .f32 1088421888#32) := by
  pointwise [k0_pay13]
  refine congrArg (min · _) (congrArg (· + _) ?_)
  unfold against
  exact Finset.sum_congr rfl fun k _ => congrArg (· * _) (x2 v X y h k)

theorem u2 (v : BitVec 32) (X : Vec Ideal S384x1024 .i32) (g : Vec Ideal S1x2048x1024 .bf16) (b : Vec Ideal S1x1x1024 .f32)
    (y : Fin 384) (h : v.toNat ≤ 128 + y.val) (j : Fin 1024) :
    k0_pay14 (F := Ideal) v X g b (ix2 y j)
      = max (Ideal.ofBits .f32 3235905536#32) (against (fun q => X (ix2 y q)) (fun k => g (ix3 0 k j)) + b (ix3 0 0 j)) := by
  pointwise [k0_pay14]
  refine congrArg (max _ ·) (congrArg (· + _) ?_)
  unfold against
  exact Finset.sum_congr rfl fun k _ => congrArg (· * _) (x2 v X y h k)

theorem c2 (y : Fin 384) (j : Fin 1024) : k0_pay15 (F := Ideal) (ix2 y j) = Ideal.ofBits .f32 1088421888#32 := by
  pointwise [k0_pay15]

theorem y2 (v : BitVec 32) (X : Vec Ideal S384x1024 .i32) (g u : Vec Ideal S1x2048x1024 .bf16) (bg bu : Vec Ideal S1x1x1024 .f32)
    (d : Vec Ideal S1x1024x2048 .bf16) (o : Vec Ideal S1x1x2048 .f32) (y : Fin 384) (h : v.toNat ≤ 128 + y.val) (n : Fin 2048) :
    k0_pay2 (F := Ideal) (k0_pay13 v X g bg) (k0_pay14 v X u bu) k0_pay15 o d (ix2 y n)
      = cell (fun q => X (ix2 y q)) (fun j k => g (ix3 0 k j)) (fun j k => u (ix3 0 k j)) (fun j => bg (ix3 0 0 j))
          (fun j => bu (ix3 0 0 j)) (fun j => d (ix3 0 j n)) (o (ix3 0 0 n)) := by
  pointwise [k0_pay2]
  unfold cell
  refine congrArg (_ + ·) (Finset.sum_congr rfl fun j _ => congrArg (· * _) ?_)
  rw [g2 v X g bg y h j, u2 v X u bu y h j, c2 y j]
  rfl

/-! ### Rows from 256 on -/

theorem x3 (v : BitVec 32) (X : Vec Ideal S256x1024 .i32) (y : Fin 256) (h : v.toNat ≤ 256 + y.val) (k : Fin 2048) :
    k0_pay16 (F := Ideal) v X (ix2 y k) = entry (fun q => X (ix2 y q)) k := by
  have hy := y.isLt
  pointwise [k0_pay16]
  unfold entry
  split
  · rw [keeps 256#32 v y.val (by omega) (by show 256 + y.val < 512; omega) h]; exact Words.low _
  · rw [keeps 256#32 v y.val (by omega) (by show 256 + y.val < 512; omega) h]; exact Words.high _

theorem g3 (v : BitVec 32) (X : Vec Ideal S256x1024 .i32) (g : Vec Ideal S1x2048x1024 .bf16) (b : Vec Ideal S1x1x1024 .f32)
    (y : Fin 256) (h : v.toNat ≤ 256 + y.val) (j : Fin 1024) :
    k0_pay17 (F := Ideal) v X g b (ix2 y j)
      = min (against (fun q => X (ix2 y q)) (fun k => g (ix3 0 k j)) + b (ix3 0 0 j)) (Ideal.ofBits .f32 1088421888#32) := by
  pointwise [k0_pay17]
  refine congrArg (min · _) (congrArg (· + _) ?_)
  unfold against
  exact Finset.sum_congr rfl fun k _ => congrArg (· * _) (x3 v X y h k)

theorem u3 (v : BitVec 32) (X : Vec Ideal S256x1024 .i32) (g : Vec Ideal S1x2048x1024 .bf16) (b : Vec Ideal S1x1x1024 .f32)
    (y : Fin 256) (h : v.toNat ≤ 256 + y.val) (j : Fin 1024) :
    k0_pay18 (F := Ideal) v X g b (ix2 y j)
      = max (Ideal.ofBits .f32 3235905536#32) (against (fun q => X (ix2 y q)) (fun k => g (ix3 0 k j)) + b (ix3 0 0 j)) := by
  pointwise [k0_pay18]
  refine congrArg (max _ ·) (congrArg (· + _) ?_)
  unfold against
  exact Finset.sum_congr rfl fun k _ => congrArg (· * _) (x3 v X y h k)

theorem c3 (y : Fin 256) (j : Fin 1024) : k0_pay19 (F := Ideal) (ix2 y j) = Ideal.ofBits .f32 1088421888#32 := by
  pointwise [k0_pay19]

theorem y3 (v : BitVec 32) (X : Vec Ideal S256x1024 .i32) (g u : Vec Ideal S1x2048x1024 .bf16) (bg bu : Vec Ideal S1x1x1024 .f32)
    (d : Vec Ideal S1x1024x2048 .bf16) (o : Vec Ideal S1x1x2048 .f32) (y : Fin 256) (h : v.toNat ≤ 256 + y.val) (n : Fin 2048) :
    k0_pay4 (F := Ideal) (k0_pay17 v X g bg) (k0_pay18 v X u bu) k0_pay19 o d (ix2 y n)
      = cell (fun q => X (ix2 y q)) (fun j k => g (ix3 0 k j)) (fun j k => u (ix3 0 k j)) (fun j => bg (ix3 0 0 j))
          (fun j => bu (ix3 0 0 j)) (fun j => d (ix3 0 j n)) (o (ix3 0 0 n)) := by
  pointwise [k0_pay4]
  unfold cell
  refine congrArg (_ + ·) (Finset.sum_congr rfl fun j _ => congrArg (· * _) ?_)
  rw [g3 v X g bg y h j, u3 v X u bu y h j, c3 y j]
  rfl

/-! ### Rows from 384 on -/

theorem x4 (v : BitVec 32) (X : Vec Ideal S128x1024 .i32) (y : Fin 128) (h : v.toNat ≤ 384 + y.val) (k : Fin 2048) :
    k0_pay20 (F := Ideal) v X (ix2 y k) = entry (fun q => X (ix2 y q)) k := by
  have hy := y.isLt
  pointwise [k0_pay20]
  unfold entry
  split
  · rw [keeps 384#32 v y.val (by omega) (by show 384 + y.val < 512; omega) h]; exact Words.low _
  · rw [keeps 384#32 v y.val (by omega) (by show 384 + y.val < 512; omega) h]; exact Words.high _

theorem g4 (v : BitVec 32) (X : Vec Ideal S128x1024 .i32) (g : Vec Ideal S1x2048x1024 .bf16) (b : Vec Ideal S1x1x1024 .f32)
    (y : Fin 128) (h : v.toNat ≤ 384 + y.val) (j : Fin 1024) :
    k0_pay21 (F := Ideal) v X g b (ix2 y j)
      = min (against (fun q => X (ix2 y q)) (fun k => g (ix3 0 k j)) + b (ix3 0 0 j)) (Ideal.ofBits .f32 1088421888#32) := by
  pointwise [k0_pay21]
  refine congrArg (min · _) (congrArg (· + _) ?_)
  unfold against
  exact Finset.sum_congr rfl fun k _ => congrArg (· * _) (x4 v X y h k)

theorem u4 (v : BitVec 32) (X : Vec Ideal S128x1024 .i32) (g : Vec Ideal S1x2048x1024 .bf16) (b : Vec Ideal S1x1x1024 .f32)
    (y : Fin 128) (h : v.toNat ≤ 384 + y.val) (j : Fin 1024) :
    k0_pay22 (F := Ideal) v X g b (ix2 y j)
      = max (Ideal.ofBits .f32 3235905536#32) (against (fun q => X (ix2 y q)) (fun k => g (ix3 0 k j)) + b (ix3 0 0 j)) := by
  pointwise [k0_pay22]
  refine congrArg (max _ ·) (congrArg (· + _) ?_)
  unfold against
  exact Finset.sum_congr rfl fun k _ => congrArg (· * _) (x4 v X y h k)

theorem c4 (y : Fin 128) (j : Fin 1024) : k0_pay23 (F := Ideal) (ix2 y j) = Ideal.ofBits .f32 1088421888#32 := by
  pointwise [k0_pay23]

theorem y4 (v : BitVec 32) (X : Vec Ideal S128x1024 .i32) (g u : Vec Ideal S1x2048x1024 .bf16) (bg bu : Vec Ideal S1x1x1024 .f32)
    (d : Vec Ideal S1x1024x2048 .bf16) (o : Vec Ideal S1x1x2048 .f32) (y : Fin 128) (h : v.toNat ≤ 384 + y.val) (n : Fin 2048) :
    k0_pay6 (F := Ideal) (k0_pay21 v X g bg) (k0_pay22 v X u bu) k0_pay23 o d (ix2 y n)
      = cell (fun q => X (ix2 y q)) (fun j k => g (ix3 0 k j)) (fun j k => u (ix3 0 k j)) (fun j => bg (ix3 0 0 j))
          (fun j => bu (ix3 0 0 j)) (fun j => d (ix3 0 j n)) (o (ix3 0 0 n)) := by
  pointwise [k0_pay6]
  unfold cell
  refine congrArg (_ + ·) (Finset.sum_congr rfl fun j _ => congrArg (· * _) ?_)
  rw [g4 v X g bg y h j, u4 v X u bu y h j, c4 y j]
  rfl

/-! ### The stored block -/

theorem ld_g (x : Vec Ideal S1x2048x1024 .bf16) : View.ld x rG = x := View.ld_unit_zero (by decide) _ _
theorem ld_b (x : Vec Ideal S1x1x1024 .f32) : View.ld x rB = x := View.ld_unit_zero (by decide) _ _
theorem ld_d (x : Vec Ideal S1x1024x2048 .bf16) : View.ld x rD = x := View.ld_unit_zero (by decide) _ _
theorem ld_c (x : Vec Ideal S1x1x2048 .f32) : View.ld x rC = x := View.ld_unit_zero (by decide) _ _

variable (v : BitVec 32) (x : Vec Ideal S512x1024 .i32) (g u : Vec Ideal S1x2048x1024 .bf16) (bg bu : Vec Ideal S1x1x1024 .f32)
  (d : Vec Ideal S1x1024x2048 .bf16) (o : Vec Ideal S1x1x2048 .f32) (y : Fin 512) (n : Fin 2048)

/-- The expert's output of row `y` at column `n`. -/
abbrev rowOf : EReal := cell (fun q => x (ix2 y q)) (fun j k => g (ix3 0 k j)) (fun j k => u (ix3 0 k j)) (fun j => bg (ix3 0 0 j))
  (fun j => bu (ix3 0 0 j)) (fun j => d (ix3 0 j n)) (o (ix3 0 0 n))

theorem at1 (y' : Fin 512) (e : y.val = 0 + y'.val) : (ix2 y n : S512x2048.Idx) = rY1.emb (ix2 y' n) := by
  funext a
  match a with
  | ⟨0, _⟩ => exact Fin.ext (by show y.val = 0 + 1 * y'.val; omega)
  | ⟨1, _⟩ => exact Fin.ext (by show n.val = 0 + 1 * n.val; omega)
theorem word1 (y' : Fin 512) (e : y.val = 0 + y'.val) (q : Fin 1024) : View.ld x rX1 (ix2 y' q) = x (ix2 y q) := by
  refine congrArg x (funext fun a => ?_)
  match a with
  | ⟨0, _⟩ => exact Fin.ext (by show 0 + 1 * y'.val = y.val; omega)
  | ⟨1, _⟩ => exact Fin.ext (by show 0 + 1 * q.val = q.val; omega)
theorem row1 (h : v.toNat ≤ y.val) (h0 : 0 ≤ y.val) : out1 (F := Ideal) v x g u bg bu d o (ix2 y n) = rowOf x g u bg bu d o y n := by
  unfold out1
  rw [ld_g, ld_g, ld_b, ld_b, ld_c, ld_d]
  have hy := y.isLt
  have e : y.val = 0 + (⟨y.val - 0, by omega⟩ : Fin 512).val := by show y.val = 0 + (y.val - 0); omega
  generalize (⟨y.val - 0, by omega⟩ : Fin 512) = y' at e
  refine (congrArg _ (at1 y n y' e)).trans ((View.canon_cons_emb _ _ _ _).trans
    ((y1 v (View.ld x rX1) g u bg bu d o y' (by omega) n).trans ?_))
  exact congrArg (fun w => cell w _ _ _ _ _ _) (funext fun q => word1 x y y' e q)

theorem at2 (y' : Fin 384) (e : y.val = 128 + y'.val) : (ix2 y n : S512x2048.Idx) = rY2.emb (ix2 y' n) := by
  funext a
  match a with
  | ⟨0, _⟩ => exact Fin.ext (by show y.val = 128 + 1 * y'.val; omega)
  | ⟨1, _⟩ => exact Fin.ext (by show n.val = 0 + 1 * n.val; omega)
theorem word2 (y' : Fin 384) (e : y.val = 128 + y'.val) (q : Fin 1024) : View.ld x rX2 (ix2 y' q) = x (ix2 y q) := by
  refine congrArg x (funext fun a => ?_)
  match a with
  | ⟨0, _⟩ => exact Fin.ext (by show 128 + 1 * y'.val = y.val; omega)
  | ⟨1, _⟩ => exact Fin.ext (by show 0 + 1 * q.val = q.val; omega)
theorem row2 (h : v.toNat ≤ y.val) (h0 : 128 ≤ y.val) : out2 (F := Ideal) v x g u bg bu d o (ix2 y n) = rowOf x g u bg bu d o y n := by
  unfold out2
  rw [ld_g, ld_g, ld_b, ld_b, ld_c, ld_d]
  have hy := y.isLt
  have e : y.val = 128 + (⟨y.val - 128, by omega⟩ : Fin 384).val := by show y.val = 128 + (y.val - 128); omega
  generalize (⟨y.val - 128, by omega⟩ : Fin 384) = y' at e
  refine (View.canon_cons_of_not_mem _ _ fun hm => ?_).trans ?_
  · have := ((Rect.mem_set_unit (inb := inb_S512x2048_S128x2048_0_0)).mp hm 0).2
    have : y.val < 0 + 128 := this
    omega
  refine (congrArg _ (at2 y n y' e)).trans ((View.canon_cons_emb _ _ _ _).trans
    ((y2 v (View.ld x rX2) g u bg bu d o y' (by omega) n).trans ?_))
  exact congrArg (fun w => cell w _ _ _ _ _ _) (funext fun q => word2 x y y' e q)

theorem at3 (y' : Fin 256) (e : y.val = 256 + y'.val) : (ix2 y n : S512x2048.Idx) = rY3.emb (ix2 y' n) := by
  funext a
  match a with
  | ⟨0, _⟩ => exact Fin.ext (by show y.val = 256 + 1 * y'.val; omega)
  | ⟨1, _⟩ => exact Fin.ext (by show n.val = 0 + 1 * n.val; omega)
theorem word3 (y' : Fin 256) (e : y.val = 256 + y'.val) (q : Fin 1024) : View.ld x rX3 (ix2 y' q) = x (ix2 y q) := by
  refine congrArg x (funext fun a => ?_)
  match a with
  | ⟨0, _⟩ => exact Fin.ext (by show 256 + 1 * y'.val = y.val; omega)
  | ⟨1, _⟩ => exact Fin.ext (by show 0 + 1 * q.val = q.val; omega)
theorem row3 (h : v.toNat ≤ y.val) (h0 : 256 ≤ y.val) : out3 (F := Ideal) v x g u bg bu d o (ix2 y n) = rowOf x g u bg bu d o y n := by
  unfold out3
  rw [ld_g, ld_g, ld_b, ld_b, ld_c, ld_d]
  have hy := y.isLt
  have e : y.val = 256 + (⟨y.val - 256, by omega⟩ : Fin 256).val := by show y.val = 256 + (y.val - 256); omega
  generalize (⟨y.val - 256, by omega⟩ : Fin 256) = y' at e
  refine (View.canon_cons_of_not_mem _ _ fun hm => ?_).trans ?_
  · have := ((Rect.mem_set_unit (inb := inb_S512x2048_S256x2048_0_0)).mp hm 0).2
    have : y.val < 0 + 256 := this
    omega
  refine (congrArg _ (at3 y n y' e)).trans ((View.canon_cons_emb _ _ _ _).trans
    ((y3 v (View.ld x rX3) g u bg bu d o y' (by omega) n).trans ?_))
  exact congrArg (fun w => cell w _ _ _ _ _ _) (funext fun q => word3 x y y' e q)

theorem at4 (y' : Fin 128) (e : y.val = 384 + y'.val) : (ix2 y n : S512x2048.Idx) = rY4.emb (ix2 y' n) := by
  funext a
  match a with
  | ⟨0, _⟩ => exact Fin.ext (by show y.val = 384 + 1 * y'.val; omega)
  | ⟨1, _⟩ => exact Fin.ext (by show n.val = 0 + 1 * n.val; omega)
theorem word4 (y' : Fin 128) (e : y.val = 384 + y'.val) (q : Fin 1024) : View.ld x rX4 (ix2 y' q) = x (ix2 y q) := by
  refine congrArg x (funext fun a => ?_)
  match a with
  | ⟨0, _⟩ => exact Fin.ext (by show 384 + 1 * y'.val = y.val; omega)
  | ⟨1, _⟩ => exact Fin.ext (by show 0 + 1 * q.val = q.val; omega)
theorem row4 (h : v.toNat ≤ y.val) (h0 : 384 ≤ y.val) : out4 (F := Ideal) v x g u bg bu d o (ix2 y n) = rowOf x g u bg bu d o y n := by
  unfold out4
  rw [ld_g, ld_g, ld_b, ld_b, ld_c, ld_d]
  have hy := y.isLt
  have e : y.val = 384 + (⟨y.val - 384, by omega⟩ : Fin 128).val := by show y.val = 384 + (y.val - 384); omega
  generalize (⟨y.val - 384, by omega⟩ : Fin 128) = y' at e
  refine (View.canon_cons_of_not_mem _ _ fun hm => ?_).trans ?_
  · have := ((Rect.mem_set_unit (inb := inb_S512x2048_S384x2048_0_0)).mp hm 0).2
    have : y.val < 0 + 384 := this
    omega
  refine (congrArg _ (at4 y n y' e)).trans ((View.canon_cons_emb _ _ _ _).trans
    ((y4 v (View.ld x rX4) g u bg bu d o y' (by omega) n).trans ?_))
  exact congrArg (fun w => cell w _ _ _ _ _ _) (funext fun q => word4 x y y' e q)

end Cert.ExpertsIdeal.Row

end
-- ==== Proof.ExpertsValue.lean ====
/- What the expert call leaves in its result: at a token's row, the output of the row block's expert. -/
module

public import proofs.«01_k».proof.Proof.ExpertsRun
public import proofs.«01_k».proof.Proof.ExpertsRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Window)

namespace Cert.ExpertsIdeal.Value
open Cert.ExpertsIdeal Cert.ExpertsIdeal.Gen Cert.ExpertsIdeal.Body Cert.ExpertsIdeal.Tables Cert.ExpertsIdeal.Run Cert.ExpertsIdeal.Row
open ExpertSpec

variable (V : (c : Dev nD) → (b : Ref sig .tc) → Buf (Elt Ideal) ((c : Thread nD τ).loc b))
variable (pf : pre0.Contents (Elt Ideal)) (hg : Good pf) (c : Dev nD) (t : Fin (cf pf hg).N)

theorem in0 (h : t.val < (nb pf).toNat) : ((cf pf hg).win 0).index t = ![t.val, 0] :=
  (index0 pf hg (grid0.coords t)).trans (by
    rw [at_coord]; have : min t.val ((nb pf).toNat - 1) = t.val := by omega
    rw [this])
theorem in7 (h : t.val < (nb pf).toNat) : ((cf pf hg).win 7).index t = ![t.val, 0] :=
  (index7 pf hg (grid0.coords t)).trans (by
    rw [at_coord]; have : min t.val ((nb pf).toNat - 1) = t.val := by omega
    rw [this])

variable (e : Fin 32) (he : (be pf (grid0.coords t)).toNat = e.val)

include he in
theorem in1 : ((cf pf hg).win 1).index t = ![e.val, 0, 0] := (index1 pf (grid0.coords t)).trans (by rw [he])
include he in
theorem in2 : ((cf pf hg).win 2).index t = ![e.val, 0, 2] := (index2 pf (grid0.coords t)).trans (by rw [he])
include he in
theorem in3 : ((cf pf hg).win 3).index t = ![e.val, 0, 0] := (index3 pf (grid0.coords t)).trans (by rw [he])
include he in
theorem in4 : ((cf pf hg).win 4).index t = ![e.val, 0, 2] := (index4 pf (grid0.coords t)).trans (by rw [he])
include he in
theorem in5 : ((cf pf hg).win 5).index t = ![e.val, 0, 0] := (index5 pf (grid0.coords t)).trans (by rw [he])
include he in
theorem in6 : ((cf pf hg).win 6).index t = ![e.val, 0, 0] := (index6 pf (grid0.coords t)).trans (by rw [he])

theorem blk0 (h : t.val < (nb pf).toNat) (y : Fin 512) (q : Fin 1024) (hb : t.val * 512 + y.val < 81920) :
    (blkOf V pf hg c 0 t : Vec Ideal S512x1024 .i32) (ix2 y q) = V c main_arg3 (ix2 ⟨t.val * 512 + y.val, hb⟩ q) := by
  have hi := in0 pf hg t h
  blk_point [blkOf, hi]

include he in
theorem blk1 (k : Fin 2048) (j : Fin 1024) :
    (blkOf V pf hg c 1 t : Vec Ideal S1x2048x1024 .bf16) (ix3 0 k j) = V c main_arg4 (ix3 e k ⟨j.val, by omega⟩) := by
  have hi := in1 pf hg t e he
  blk_point [blkOf, hi]

include he in
theorem blk2 (k : Fin 2048) (j : Fin 1024) :
    (blkOf V pf hg c 2 t : Vec Ideal S1x2048x1024 .bf16) (ix3 0 k j) = V c main_arg4 (ix3 e k ⟨2048 + j.val, by omega⟩) := by
  have hi := in2 pf hg t e he
  blk_point [blkOf, hi]

include he in
theorem blk3 (j : Fin 1024) :
    (blkOf V pf hg c 3 t : Vec Ideal S1x1x1024 .f32) (ix3 0 0 j) = V c main_arg5 (ix3 e 0 ⟨j.val, by omega⟩) := by
  have hi := in3 pf hg t e he
  blk_point [blkOf, hi]

include he in
theorem blk4 (j : Fin 1024) :
    (blkOf V pf hg c 4 t : Vec Ideal S1x1x1024 .f32) (ix3 0 0 j) = V c main_arg5 (ix3 e 0 ⟨2048 + j.val, by omega⟩) := by
  have hi := in4 pf hg t e he
  blk_point [blkOf, hi]

include he in
theorem blk5 (j : Fin 1024) (n : Fin 2048) :
    (blkOf V pf hg c 5 t : Vec Ideal S1x1024x2048 .bf16) (ix3 0 j n) = V c main_arg6 (ix3 e ⟨j.val, by omega⟩ n) := by
  have hi := in5 pf hg t e he
  blk_point [blkOf, hi]

include he in
theorem blk6 (n : Fin 2048) :
    (blkOf V pf hg c 6 t : Vec Ideal S1x1x2048 .f32) (ix3 0 0 n) = V c main_arg7 (ix3 e 0 n) := by
  have hi := in6 pf hg t e he
  blk_point [blkOf, hi]

/-- Row `y` of a block in use, from the block's first token on: the block's expert on the row's words. -/
theorem made_at (he : (be pf (grid0.coords t)).toNat = e.val) (h : t.val < (nb pf).toNat) (y : Fin 512) (n : Fin 2048)
    (r : Fin 81920) (hr : r.val = t.val * 512 + y.val) (hv : (fv pf (grid0.coords t)).toNat ≤ y.val) :
    made V pf hg c t (ix2 y n)
      = cell (fun q => V c main_arg3 (ix2 r q)) (fun j k => V c main_arg4 (ix3 e k ⟨j.val, by omega⟩))
          (fun j k => V c main_arg4 (ix3 e k ⟨2048 + j.val, by omega⟩)) (fun j => V c main_arg5 (ix3 e 0 ⟨j.val, by omega⟩))
          (fun j => V c main_arg5 (ix3 e 0 ⟨2048 + j.val, by omega⟩)) (fun j => V c main_arg6 (ix3 e ⟨j.val, by omega⟩ n))
          (V c main_arg7 (ix3 e 0 n)) := by
  have key : made V pf hg c t (ix2 y n) = rowOf (blkOf V pf hg c 0 t) (blkOf V pf hg c 1 t) (blkOf V pf hg c 2 t)
      (blkOf V pf hg c 3 t) (blkOf V pf hg c 4 t) (blkOf V pf hg c 5 t) (blkOf V pf hg c 6 t) y n := by
    unfold made outOf
    split
    · exact row1 _ _ _ _ _ _ _ _ y n hv (Nat.zero_le _)
    · split
      · exact row2 _ _ _ _ _ _ _ _ y n hv (by omega)
      · split
        · exact row3 _ _ _ _ _ _ _ _ y n hv (by omega)
        · exact row4 _ _ _ _ _ _ _ _ y n hv (by omega)
  refine key.trans ?_
  exact congr (congr (congr (congr (congr (congr (congrArg cell
    (funext fun q => (blk0 V pf hg c t h y q (hr ▸ r.isLt)).trans
      (congrArg (fun r : Fin 81920 => V c main_arg3 (ix2 r q)) (Fin.ext hr.symm))))
    (funext fun j => funext fun k => blk1 V pf hg c t e he k j))
    (funext fun j => funext fun k => blk2 V pf hg c t e he k j))
    (funext fun j => blk3 V pf hg c t e he j))
    (funext fun j => blk4 V pf hg c t e he j))
    (funext fun j => blk5 V pf hg c t e he j n))
    (blk6 V pf hg c t e he n)

/-! ### What the write-backs leave -/

/-- The point that writes block `b` back: `b` itself, and the last point for the last block in use. -/
def pointOf (b : Fin (cf pf hg).N) : Fin (cf pf hg).N :=
  if b.val + 1 < (nb pf).toNat then b else ⟨(cf pf hg).N - 1, Nat.sub_lt (lt_of_le_of_lt (Nat.zero_le _) b.isLt) Nat.one_pos⟩

theorem flush_at (b : Fin (cf pf hg).N) (h : b.val < (nb pf).toNat) : ((cf pf hg).win 7).flush (pointOf pf hg b) = true := by
  unfold Window.flush
  rw [Bool.and_eq_true, Bool.or_eq_true, decide_eq_true_eq, decide_eq_true_eq]
  refine ⟨rfl, ?_⟩
  unfold pointOf
  split
  · by_cases hl : b.val + 1 < (cf pf hg).N
    · refine Or.inr ⟨hl, ?_⟩
      rw [index_7, index_7]
      intro k
      have k0 : min (b.val + 1) ((nb pf).toNat - 1) = min b.val ((nb pf).toNat - 1) := congrFun k 0
      omega
    · exact Or.inl (by have := b.isLt; show b.val + 1 = (cf pf hg).N; omega)
  · exact Or.inl (by have := b.isLt; show (cf pf hg).N - 1 + 1 = (cf pf hg).N; omega)

theorem last_at (b : Fin (cf pf hg).N) (h : b.val < (nb pf).toNat) : last pf hg (pointOf pf hg b) = b := by
  have hb := b.isLt
  refine Fin.ext ?_
  unfold pointOf
  split
  · show min b.val ((nb pf).toNat - 1) = b.val; omega
  · show min ((cf pf hg).N - 1) ((nb pf).toNat - 1) = b.val; omega

theorem index_last (s : Fin (cf pf hg).N) : ((cf pf hg).win 7).index s = ![(last pf hg s).val, 0] := index_7 pf hg s

/-- Row and column of an entry of the result. -/
abbrev rowN (i : S81920x2048.Idx) : ℕ := (i 0).val
abbrev colN (i : S81920x2048.Idx) : ℕ := (i 1).val

theorem row (s : Fin (cf pf hg).N) (y : S512x2048.Idx) :
    rowN ((((cf pf hg).win 7).blk s).view.emb y) = (last pf hg s).val * 512 + (y 0 : ℕ) := by
  have hi := index_last pf hg s
  blk_simp [hi, rowN]
theorem col (s : Fin (cf pf hg).N) (y : S512x2048.Idx) :
    colN ((((cf pf hg).win 7).blk s).view.emb y) = (y 1 : ℕ) := by
  have hi := index_last pf hg s
  blk_simp [hi, colN]

/-- A row of a block in use, from its first token on, is written with the block's output and by no other block. -/
theorem left_at (G : S81920x2048.Idx → EReal)
    (hG : ∀ (b : Fin (cf pf hg).N) (y : Fin 512) (n : Fin 2048) (i : S81920x2048.Idx), b.val < (nb pf).toNat →
      (fv pf (grid0.coords b)).toNat ≤ y.val → rowN i = b.val * 512 + y.val → colN i = n.val →
      made V pf hg c b (ix2 y n) = G i)
    (b : Fin (cf pf hg).N) (y : Fin 512) (hb : b.val < (nb pf).toNat) (hv : (fv pf (grid0.coords b)).toNat ≤ y.val)
    (i : S81920x2048.Idx) (hi : rowN i = b.val * 512 + y.val) : (data V pf hg c).arrAt 7 (cf pf hg).N i = G i := by
  refine (data V pf hg c).arrAt_forall_of_flushed 7
    (fun i v => ∀ (b : Fin (cf pf hg).N) (y : Fin 512), b.val < (nb pf).toNat → (fv pf (grid0.coords b)).toNat ≤ y.val →
      rowN i = b.val * 512 + y.val → v = G i) ?_ (cf pf hg).N (pointOf pf hg b) i (pointOf pf hg b).isLt
      (flush_at pf hg b hb) ?_ b y hb hv hi
  · intro s _ (z : S512x2048.Idx) b y hb hv e
    have e0 := (row pf hg s z).symm.trans e
    have hz : (z 0).val < 512 := (z 0).isLt
    have eb : last pf hg s = b := Fin.ext (by omega)
    have ey : (z 0 : Fin 512) = y := Fin.ext (by rw [eb] at e0; omega)
    have ez : z = ix2 y (z 1) := (eq_ix2 z).trans (congrArg (fun w : Fin 512 => (ix2 w (z 1) : S512x2048.Idx)) ey)
    have key : made V pf hg c b (ix2 y (z 1)) = G ((((cf pf hg).win 7).blk s).view.emb z) :=
      hG b y (z 1) _ hb hv e (col pf hg s z)
    refine (show _ = made V pf hg c (last pf hg s) z from ?_).trans ?_
    · blk_simp
      exact congrFun (after_7 V pf hg c s) z
    · exact (congrArg₂ (made V pf hg c) eb ez).trans key
  · have hz : i = (((cf pf hg).win 7).blk (pointOf pf hg b)).view.emb (ix2 y (i 1) : S512x2048.Idx) := by
      funext a
      match a with
      | ⟨0, _⟩ => exact Fin.ext (hi.trans ((row pf hg _ _).trans (by rw [last_at pf hg b hb]; rfl)).symm)
      | ⟨1, _⟩ => exact Fin.ext (col pf hg (pointOf pf hg b) (ix2 y (i 1))).symm
    rw [hz]
    exact View.emb_mem_set _ _

end Cert.ExpertsIdeal.Value

end
-- ==== Proof.ExpertsRef.lean ====
/- The reference's expert output, its hidden units first: what its blocks of weights and its packed rows are. -/
module

public import proofs.«01_k».proof.Proof.Gen.ExpertsRefIdeal.Run
public import proofs.«01_k».proof.Proof.ExpertsSpec
public import Idealize.ShloMosaic.Lib.BitcastConvert

@[expose] public section

set_option maxRecDepth 16384

noncomputable section

open Idealize.ShloMosaic Idealize.ShloMosaic.TcCoe Idealize.SL.Sem

namespace Cert.ExpertsRefIdeal.Value
open Cert.ExpertsRefIdeal Cert.ExpertsRefIdeal.Gen ExpertSpec

/-- The experts of the row blocks, a negative one counted from the end. -/
def TABLE (a0 : IVec S160 32) : IVec S160x1 32 :=
  broadcastInDim S160x1 ![0] bcast_S160_S160x1_0 (select (cmpi .slt a0 (broadcastInDim S160 ![] bcast_S_S160
    (constantI S_ 32 0#32))) (addi a0 (broadcastInDim S160 ![] bcast_S_S160 (constantI S_ 32 32#32))) a0)

/-- The gate's and the up projection's values before the limits. -/
def GU (a0 : IVec S160 32) (a3 : IVec S81920x1024 32) (a4 : FVec Ideal S32x2048x4096 .bf16) (a5 : FVec Ideal S32x1x4096 .f32) :
    FVec Ideal S160x512x4096 .f32 :=
  addf (Host.dotGeneral dot_S160x512x2048_S160x2048x4096_S160x512x4096_2_1_1_2_0_0 none (shapeCast _ (concatenate
    S81920x2048 1 [⟨S81920x1024, (shapeCast _ (extractStridedSlice S81920x1024x1 ![0, 0, 0] (extf .f32 (bitcastToFloat
    (F := Ideal) .bf16 (Host.bitcastConvertNarrow S81920x1024x2 16 a3 splits_S81920x1024_w32_S81920x1024x2_w16))
    bitsLt_bf16_f32) slices_S81920x1024x2_S81920x1024x1_0_0_0) shapeCasts_S81920x1024x1_S81920x1024)⟩, ⟨S81920x1024,
    (shapeCast _ (extractStridedSlice S81920x1024x1 ![0, 0, 1] (extf .f32 (bitcastToFloat (F := Ideal) .bf16
    (Host.bitcastConvertNarrow S81920x1024x2 16 a3 splits_S81920x1024_w32_S81920x1024x2_w16)) bitsLt_bf16_f32)
    slices_S81920x1024x2_S81920x1024x1_0_0_1) shapeCasts_S81920x1024x1_S81920x1024)⟩]
    concatenates_S81920x1024_S81920x1024_S81920x2048_d1) shapeCasts_S81920x2048_S160x512x2048) (extf .f32 (Host.gather
    gather_S32x2048x4096_S160x1_S160x2048x4096_12_0_n_n_0_1_120484096 a4 (TABLE a0)) bitsLt_bf16_f32)) (broadcastInDim
    S160x512x4096 ![0, 1, 2] bcast_S160x1x4096_S160x512x4096_0_1_2 (Host.gather
    gather_S32x1x4096_S160x1_S160x1x4096_12_0_n_n_0_1_114096 a5 (TABLE a0)))

/-- The hidden units. -/
def ACT (a0 : IVec S160 32) (a3 : IVec S81920x1024 32) (a4 : FVec Ideal S32x2048x4096 .bf16) (a5 : FVec Ideal S32x1x4096 .f32) :
    FVec Ideal S160x512x2048 .f32 :=
  mulf (mulf (addf (minimumf (broadcastInDim S160x512x2048 ![] bcast_S_S160x512x2048 (id (constant S_ .f32
    0x40E00000#32))) (maximumf (broadcastInDim S160x512x2048 ![] bcast_S_S160x512x2048 (id (constant S_ .f32
    0xC0E00000#32))) (extractStridedSlice S160x512x2048 ![0, 0, 2048] (GU a0 a3 a4 a5)
    slices_S160x512x4096_S160x512x2048_0_0_2048))) (broadcastInDim S160x512x2048 ![] bcast_S_S160x512x2048 (constant S_
    .f32 0x3F800000#32))) (minimumf (extractStridedSlice S160x512x2048 ![0, 0, 0] (GU a0 a3 a4 a5)
    slices_S160x512x4096_S160x512x2048_0_0_0) (broadcastInDim S160x512x2048 ![] bcast_S_S160x512x2048 (constant S_ .f32
    0x40E00000#32)))) (Host.divf (broadcastInDim S160x512x2048 ![] bcast_S_S160x512x2048 (constant S_ .f32
    0x3F800000#32)) (addf (broadcastInDim S160x512x2048 ![] bcast_S_S160x512x2048 (constant S_ .f32 0x3F800000#32))
    (Host.exp (Host.negf (mulf (broadcastInDim S160x512x2048 ![] bcast_S_S160x512x2048 (constant S_ .f32 0x3FD9DB23#32))
    (minimumf (extractStridedSlice S160x512x2048 ![0, 0, 0] (GU a0 a3 a4 a5) slices_S160x512x4096_S160x512x2048_0_0_0)
    (broadcastInDim S160x512x2048 ![] bcast_S_S160x512x2048 (constant S_ .f32 0x40E00000#32))))))))

/-- The reference's result of its arguments. -/
def REF (a0 : IVec S160 32) (a3 : IVec S81920x1024 32) (a4 : FVec Ideal S32x2048x4096 .bf16) (a5 : FVec Ideal S32x1x4096 .f32)
    (a6 : FVec Ideal S32x2048x2048 .bf16) (a7 : FVec Ideal S32x1x2048 .f32) : FVec Ideal S81920x2048 .f32 :=
  shapeCast S81920x2048 (addf (Host.dotGeneral dot_S160x512x1024_S160x1024x2048_S160x512x2048_2_1_1_2_0_0 none
    (extractStridedSlice S160x512x1024 ![0, 0, 0] (ACT a0 a3 a4 a5) slices_S160x512x2048_S160x512x1024_0_0_0) (extf .f32
    (extractStridedSlice S160x1024x2048 ![0, 0, 0] (Host.gather
    gather_S32x2048x2048_S160x1_S160x2048x2048_12_0_n_n_0_1_120482048 a6 (TABLE a0))
    slices_S160x2048x2048_S160x1024x2048_0_0_0) bitsLt_bf16_f32)) (broadcastInDim S160x512x2048 ![0, 1, 2]
    bcast_S160x1x2048_S160x512x2048_0_1_2 (Host.gather gather_S32x1x2048_S160x1_S160x1x2048_12_0_n_n_0_1_112048 a7
    (TABLE a0)))) shapeCasts_S160x512x2048_S81920x2048

theorem res_eq (m : (ℓ : Loc nD τ sig) → Buf (Elt Ideal) ℓ) (c : Dev nD) : res_main_v63 m c
    = REF (m ((c.tc : Thread nD τ).loc main_arg0)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := rfl

theorem narrow (f : IVec S81920x1024 32) (h : S81920x1024.SplitsWords 32 S81920x1024x2 16) (r : Fin 81920) (x : Fin 1024) (b : Fin 2) :
    Host.bitcastConvertNarrow S81920x1024x2 16 f h (ix3 r x b) = (f (ix2 r x)).extractLsb' (b.val * 16) 16 := by
  rw [Host.bitcastConvertNarrow_apply]
  have e : h.drop (ix3 r x b) = ix2 r x := by
    funext a; apply Fin.ext
    fin_cases a <;> rfl
  rw [e]; rfl

/-- The table names the row block's expert. -/
theorem table (a0 : IVec S160 32) (t : Fin 160) (e : Fin 32) (he : a0 (ix1 t) = BitVec.ofNat 32 e.val) :
    (TABLE a0 (ix2 t 0)).toInt.toNat = e.val := by
  pointwise [TABLE]
  rw [he]
  clear he
  revert e
  decide

theorem gu (a0 : IVec S160 32) (a3 : IVec S81920x1024 32) (a4 : FVec Ideal S32x2048x4096 .bf16) (a5 : FVec Ideal S32x1x4096 .f32)
    (t : Fin 160) (y : Fin 512) (j : Fin 4096) (r : Fin 81920) (hr : r.val = t.val * 512 + y.val) (e : Fin 32)
    (he : a0 (ix1 t) = BitVec.ofNat 32 e.val) :
    GU a0 a3 a4 a5 (ix3 t y j) = against (fun q => a3 (ix2 r q)) (fun k => a4 (ix3 e k j)) + a5 (ix3 e 0 j) := by
  pointwise [GU]
  rw [against_halves]
  have hre : (⟨t.val * 512 + y.val, by omega⟩ : Fin 81920) = r := Fin.ext hr.symm
  refine congrArg₂ (fun p q : EReal => p + q) (congrArg₂ (fun p q : EReal => p + q)
    (Finset.sum_congr rfl fun x _ => congrArg₂ (fun p q : EReal => p * q) ?_ ?_)
    (Finset.sum_congr rfl fun x _ => congrArg₂ (fun p q : EReal => p * q) ?_ ?_)) ?_
  · exact (congrArg (Ideal.ofBits .bf16) (narrow _ _ _ _ _)).trans (congrArg (fun z => half (a3 (ix2 z x)) 0) hre)
  · exact take_block gather_S32x2048x4096_S160x1_S160x2048x4096_12_0_n_n_0_1_120484096_wf a4 (TABLE a0) t _ j e (table a0 t e he)
  · exact (congrArg (Ideal.ofBits .bf16) (narrow _ _ _ _ _)).trans (congrArg (fun z => half (a3 (ix2 z x)) 1) hre)
  · exact take_block gather_S32x2048x4096_S160x1_S160x2048x4096_12_0_n_n_0_1_120484096_wf a4 (TABLE a0) t _ j e (table a0 t e he)
  · exact take_block gather_S32x1x4096_S160x1_S160x1x4096_12_0_n_n_0_1_114096_wf a5 (TABLE a0) t 0 j e (table a0 t e he)

end Cert.ExpertsRefIdeal.Value

end
-- ==== Proof.ExpertsRefRow.lean ====
/- One entry of the reference's expert output. -/
module

public import proofs.«01_k».proof.Proof.ExpertsRef

@[expose] public section

set_option maxRecDepth 16384

noncomputable section

open Idealize.ShloMosaic Idealize.ShloMosaic.TcCoe Idealize.SL.Sem

namespace Cert.ExpertsRefIdeal.Value
open Cert.ExpertsRefIdeal Cert.ExpertsRefIdeal.Gen ExpertSpec

theorem act (a0 : IVec S160 32) (a3 : IVec S81920x1024 32) (a4 : FVec Ideal S32x2048x4096 .bf16) (a5 : FVec Ideal S32x1x4096 .f32)
    (t : Fin 160) (y : Fin 512) (j : Fin 2048) :
    ACT a0 a3 a4 a5 (ix3 t y j) = unit (GU a0 a3 a4 a5 (ix3 t y ⟨j.val, by omega⟩)) (GU a0 a3 a4 a5 (ix3 t y ⟨2048 + j.val, by omega⟩)) := by
  pointwise [ACT]
  unfold unit
  rw [zero_sub]
  rfl

theorem ofRef (a0 : IVec S160 32) (a3 : IVec S81920x1024 32) (a4 : FVec Ideal S32x2048x4096 .bf16) (a5 : FVec Ideal S32x1x4096 .f32)
    (a6 : FVec Ideal S32x2048x2048 .bf16) (a7 : FVec Ideal S32x1x2048 .f32) (r : Fin 81920) (n : Fin 2048)
    (t : Fin 160) (y : Fin 512) (hr : r.val = t.val * 512 + y.val) (e : Fin 32) (he : a0 (ix1 t) = BitVec.ofNat 32 e.val) :
    REF a0 a3 a4 a5 a6 a7 (ix2 r n)
      = cell (fun q => a3 (ix2 r q)) (fun j k => a4 (ix3 e k ⟨j.val, by omega⟩)) (fun j k => a4 (ix3 e k ⟨2048 + j.val, by omega⟩))
          (fun j => a5 (ix3 e 0 ⟨j.val, by omega⟩)) (fun j => a5 (ix3 e 0 ⟨2048 + j.val, by omega⟩))
          (fun j => a6 (ix3 e ⟨j.val, by omega⟩ n)) (a7 (ix3 e 0 n)) := by
  pointwise [REF]
  have ht : (⟨r.val / 512, by omega⟩ : Fin 160) = t := Fin.ext (by show r.val / 512 = t.val; omega)
  have hy : (⟨r.val % 512, by omega⟩ : Fin 512) = y := Fin.ext (by show r.val % 512 = y.val; omega)
  unfold cell
  refine (add_comm _ _).trans (congrArg₂ (fun p q : EReal => p + q) ?_
    (Finset.sum_congr rfl fun j _ => congrArg₂ (fun p q : EReal => p * q) ?_ ?_))
  · exact (congrArg (fun z => Host.gather _ a7 (TABLE a0) (ix3 z 0 n)) ht).trans
      (take_block gather_S32x1x2048_S160x1_S160x1x2048_12_0_n_n_0_1_112048_wf a7 (TABLE a0) t 0 n e (table a0 t e he))
  · refine (congrArg₂ (fun z z' => ACT a0 a3 a4 a5 (ix3 z z' _)) ht hy).trans ?_
    refine (act a0 a3 a4 a5 t y ⟨j.val, by omega⟩).trans ?_
    exact congrArg₂ unit (gu a0 a3 a4 a5 t y _ r hr e he) (gu a0 a3 a4 a5 t y _ r hr e he)
  · exact (congrArg (fun z => Host.gather _ a6 (TABLE a0) (ix3 z _ n)) ht).trans
      (take_block gather_S32x2048x2048_S160x1_S160x2048x2048_12_0_n_n_0_1_120482048_wf a6 (TABLE a0) t _ n e (table a0 t e he))

end Cert.ExpertsRefIdeal.Value

end
-- ==== Proof.ExpertsFinal.lean ====
/- At a token's row the expert call leaves what the reference says. -/
module

public import proofs.«01_k».proof.Proof.ExpertsPre
public import proofs.«01_k».proof.Proof.ExpertsValue
public import proofs.«01_k».proof.Proof.ExpertsRefRow

@[expose] public section

set_option maxRecDepth 16384

noncomputable section

open Idealize.ShloMosaic Idealize.ShloMosaic.TcCoe Idealize.SL.Sem

namespace Cert.ExpertsIdeal.Final
open Cert.ExpertsIdeal Cert.ExpertsIdeal.Gen Cert.ExpertsIdeal.Body Cert.ExpertsIdeal.Tables Cert.ExpertsIdeal.Run Cert.ExpertsIdeal.Pre
open Cert.ExpertsIdeal.Value

variable {F : FTy → Type} [FloatOps F]

/-- The argument `b` as launched. -/
abbrev arg (m : (ℓ : Loc nD τ sig) → Buf (Elt F) ℓ) (c : Dev nD) (b : Ref sig .tc) : Buf (Elt F) ((c.tc : Thread nD τ).loc b) :=
  m ((c.tc : Thread nD τ).loc b)

/-- The tables as launched are in range. -/
theorem in_range (m : (ℓ : Loc nD τ sig) → Buf (Elt F) ℓ)
    (h : Cert.Pre_tables_in_range.fn (F := F) (arg m 0 main_arg0) (arg m 0 main_arg1) (arg m 0 main_arg2) (arg m 0 main_arg3)
      (arg m 0 main_arg4) (arg m 0 main_arg5) (arg m 0 main_arg6) (arg m 0 main_arg7) = fun _ => 1#1) : Good (tabs m) :=
  good _ _ _ _ _ _ _ _ h (tabs m) rfl rfl rfl

theorem final (m : (ℓ : Loc nD τ sig) → Buf (Elt Ideal) ℓ) (c : Dev nD) (hg : Good (tabs m))
    (h : Cert.Pre_tables_in_range.fn (F := Ideal) (arg m c main_arg0) (arg m c main_arg1) (arg m c main_arg2) (arg m c main_arg3)
      (arg m c main_arg4) (arg m c main_arg5) (arg m c main_arg6) (arg m c main_arg7) = fun _ => 1#1) (i : S81920x2048.Idx)
    (hi : Cert.On_token_rows.fn (F := Ideal) (arg m c main_arg0) (arg m c main_arg1) (arg m c main_arg2) (arg m c main_arg3)
      (arg m c main_arg4) (arg m c main_arg5) (arg m c main_arg6) (arg m c main_arg7) i = 1#1) :
    (data (mem m) (tabs m) hg c).arrAt 7 (cf (tabs m) hg).N i
      = Cert.ExpertsRefIdeal.Value.REF (arg m c main_arg0) (arg m c main_arg3) (arg m c main_arg4) (arg m c main_arg5)
          (arg m c main_arg6) (arg m c main_arg7) i := by
  obtain rfl : c = 0 := Subsingleton.elim _ _
  have hr : (i 0).val < 81920 := (i 0).isLt
  have tb (b : Fin 160) : fvAt (tabs m 0) (grid0.coords b) = arg m 0 main_arg0 (ix1 b) := fvAt_eq (arg m 0 main_arg0) _ b (at_coord b).symm
  have tv (b : Fin 160) : fvAt (tabs m 2) (grid0.coords b) = arg m 0 main_arg2 (ix1 b) := fvAt_eq (arg m 0 main_arg2) _ b (at_coord b).symm
  have tn : nbAt (tabs m 1) = arg m 0 main_arg1 (ix1 0) := nbAt_eq (arg m 0 main_arg1)
  have w (b : Fin 160) := words (F := Ideal) _ _ _ _ _ _ _ _ b (congrFun h _)
  have hb : (i 0).val / 512 < 160 := by omega
  have hy : (i 0).val % 512 < 512 := by omega
  have e0 : (i 0).val = (⟨(i 0).val / 512, hb⟩ : Fin 160).val * 512 + (⟨(i 0).val % 512, hy⟩ : Fin 512).val := by
    show (i 0).val = (i 0).val / 512 * 512 + (i 0).val % 512; omega
  have mk := mask (F := Ideal) _ _ _ _ _ _ _ _ (i 0) (i 1) ⟨(i 0).val / 512, hb⟩ ⟨(i 0).val % 512, hy⟩ e0 (w 0).2.2.1
    (w ⟨(i 0).val / 512, hb⟩).2.2.2 ((congrArg _ (eq_ix2 i).symm).trans hi)
  refine left_at (mem m) (tabs m) hg 0 _ ?_ (⟨(i 0).val / 512, hb⟩ : Fin 160) ⟨(i 0).val % 512, hy⟩
    (lt_of_lt_of_eq mk.1 (congrArg BitVec.toNat tn).symm) (le_of_eq_of_le (congrArg BitVec.toNat (tv _)) mk.2) i e0
  intro b y n j hb hv e1 e2
  have he := (w b).1
  refine (made_at (mem m) (tabs m) hg 0 b ⟨_, he⟩ (congrArg BitVec.toNat (tb b)) hb y n (j 0) e1 hv).trans ?_
  have ej : j = ix2 (j 0) n := (eq_ix2 j).trans (congrArg (fun z : Fin 2048 => (ix2 (j 0) z : S81920x2048.Idx)) (Fin.ext e2))
  refine ((Cert.ExpertsRefIdeal.Value.ofRef (arg m 0 main_arg0) (arg m 0 main_arg3) (arg m 0 main_arg4) (arg m 0 main_arg5)
    (arg m 0 main_arg6) (arg m 0 main_arg7) (j 0) n b y e1 ⟨_, he⟩ (BitVec.eq_of_toNat_eq
      (by rw [BitVec.toNat_ofNat]; exact (Nat.mod_eq_of_lt (BitVec.isLt _)).symm))).symm).trans (congrArg _ ej.symm)

end Cert.ExpertsIdeal.Final

end
-- ==== Proof.lean ====
/-
  The proof of `Cert.Claim`: four programs of one version's calls, each with its frames and its value claim.
  `Kernel` is the rearrangement of the input projection's weight and the projection itself (two calls in one
  program), `Merge` the projection that joins the two mixers to the residual stream, `Experts` the experts' first
  pass over the token rows, `Combine` the weighted sum that forms the layer's result.
  The runs of `Merge` and `Combine` are the generated ones; that of `Kernel` is in JointRun, over the calls' bodies in
  Halves, that of `Experts` in ExpertsRun, over its body in ExpertsBody and its tables in ExpertsTables. What a run leaves
  in a result array is read in InProjValue, MergeValue, CombineValue and ExpertsFinal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Experts
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.Pre_tables_in_range
public import proofs.«01_k».proof.Proof.Gen.On_token_rows
public import proofs.«01_k».proof.Proof.Gen.ReferenceIdeal.Run
public import proofs.«01_k».proof.Proof.Gen.MergeRefIdeal.Run
public import proofs.«01_k».proof.Proof.Gen.CombineRefIdeal.Run
public import proofs.«01_k».proof.Proof.Gen.ExpertsRefIdeal.Run
public import proofs.«01_k».proof.Proof.JointRun
public import proofs.«01_k».proof.Proof.InProjValue
public import proofs.«01_k».proof.Proof.MergeValue
public import proofs.«01_k».proof.Proof.CombineValue
public import proofs.«01_k».proof.Proof.ExpertsRun
public import proofs.«01_k».proof.Proof.ExpertsFinal
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The frame of the first program, from its one run, over any floats. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run Cert.KernelIdeal.defs (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c => (h.1 c).2.2.2, h.2⟩) (Cert.KernelIdeal.Joint.run_main (F := F) m g)

/-- Kernel and ideal program run the same bodies: nothing was rewritten between them. -/
theorem bodies : Cert.Kernel.defs₀ (F := Bits) = Cert.KernelIdeal.defs₀ (F := Bits) := by
  refine congrArg Defs.onTc (funext fun l => funext fun x => ?_)
  match l, x with
  | ⟨0, _⟩, (t, s) => rfl
  | ⟨1, _⟩, (t, s) => rfl
theorem tables : Cert.Kernel.defs (F := Bits) = Cert.KernelIdeal.defs (F := Bits) :=
  congrArg (Pipeline.defs (Cert.Kernel.pcfgs (F := Bits))) bodies

/-- At words for the kernel, at the ideal values for its ideal program. -/
theorem frame_k : Cert.quiescent_Kernel := by
  intro m g _
  rw [tables]
  exact frame_any (F := Bits) m g
theorem frame_ki : Cert.quiescent_KernelIdeal := fun m g _ => frame_any (F := Ideal) m g

/-- The three reference programs keep their arguments and leave no semaphore up. -/
theorem frame_r : Cert.quiescent_ReferenceIdeal := by
  intro m g _
  refine (θ_run Cert.ReferenceIdeal.defs _ _).mono (fun r h => ⟨fun c => (h c).2.2.2,
    Idealize.ShloMosaic.sem_eq_zero_of_no_sems (by decide) r.2⟩) (Cert.ReferenceIdeal.Value.run (F := Ideal) m g)

theorem frame_mr : Cert.quiescent_MergeRefIdeal := by
  intro m g _
  refine (θ_run Cert.MergeRefIdeal.defs _ _).mono (fun r h => ⟨fun c => (h c).2,
    Idealize.ShloMosaic.sem_eq_zero_of_no_sems (by decide) r.2⟩) (Cert.MergeRefIdeal.Value.run (F := Ideal) m g)

theorem frame_cr : Cert.quiescent_CombineRefIdeal := by
  intro m g _
  refine (θ_run Cert.CombineRefIdeal.defs _ _).mono (fun r h => ⟨fun c => (h c).2,
    Idealize.ShloMosaic.sem_eq_zero_of_no_sems (by decide) r.2⟩) (Cert.CombineRefIdeal.Value.run (F := Ideal) m g)

theorem projection : Cert.algebraic_KernelIdeal_ReferenceIdeal := by
  pair_intro
  · refine (θ_run Cert.KernelIdeal.defs _ _).mono (fun r h c => ⟨?_, ?_, ?_, (h.1 c).2.2.2⟩)
      (Cert.KernelIdeal.Joint.run_main (F := Ideal) m g)
    · exact (h.1 c).1
    · exact (h.1 c).2.1
    · exact (h.1 c).2.2.1
  · refine (θ_run Cert.ReferenceIdeal.defs _ _).mono (fun r h c => ⟨(h c).1.trans ?_, (h c).2.1.trans ?_, (h c).2.2.1.trans ?_,
      (h c).2.2.2⟩) (Cert.ReferenceIdeal.Value.run (F := Ideal) m' g')
    · exact (show _ = Cert.ReferenceIdeal.Value.REF_p _ _ _ from rfl).trans
        ((congr (congrArg₂ Cert.ReferenceIdeal.Value.REF_p (hagree c).1 (hagree c).2.1) (hagree c).2.2.1).trans
          (Cert.KernelIdeal.Value.finalP m g c).symm)
    · exact (show _ = Cert.ReferenceIdeal.Value.REF_a _ _ _ from rfl).trans
        ((congr (congrArg₂ Cert.ReferenceIdeal.Value.REF_a (hagree c).1 (hagree c).2.1) (hagree c).2.2.1).trans
          (Cert.KernelIdeal.Value.finalA m g c).symm)
    · exact (show _ = Cert.ReferenceIdeal.Value.REF_u _ from rfl).trans
        ((congrArg Cert.ReferenceIdeal.Value.REF_u (hagree c).2.2.2).trans (Cert.KernelIdeal.Value.finalU m g c).symm)

theorem merge : Cert.algebraic_MergeIdeal_MergeRefIdeal := by
  pair_intro
  · run_from Cert.MergeIdeal.Gen.run_main m g
    all_goals first
      | exact Cert.MergeIdeal.Gen.V_main_arg0 m c
      | exact Cert.MergeIdeal.Gen.V_main_arg1 m c
      | exact Cert.MergeIdeal.Gen.V_main_arg2 m c
      | exact Cert.MergeIdeal.Gen.V_main_arg3 m c
      | exact Cert.MergeIdeal.Gen.V_main_arg4 m c
      | exact Cert.MergeIdeal.Gen.V_main_arg5 m c
      | exact Cert.MergeIdeal.Gen.V_main_arg6 m c
      | exact Cert.MergeIdeal.Gen.V_main_arg7 m c
  · run_from Cert.MergeRefIdeal.Value.run m' g'
    exact (Cert.MergeIdeal.Value.final m c).symm

theorem combine : Cert.algebraic_CombineIdeal_CombineRefIdeal := by
  pair_intro
  · run_from Cert.CombineIdeal.Gen.run_main m g
  · refine (θ_run Cert.CombineRefIdeal.defs _ _).mono (fun r hr c => ⟨(hr c).1.trans ?_, (hr c).2⟩)
      (Cert.CombineRefIdeal.Value.run (F := Ideal) m' g')
    exact (Cert.CombineIdeal.Value.final m m' c c (hagree c).1 (hagree c).2.1 (hagree c).2.2.1 (hagree c).2.2.2).symm

/-- The frame of the experts' pass, from its one run, over any floats, where the tables are in range. -/
theorem frame_experts {F : FTy → Type} [FloatOps F] (m : (ℓ : Loc Cert.ExpertsIdeal.nD Cert.ExpertsIdeal.τ Cert.ExpertsIdeal.sig) → Buf (Elt F) ℓ)
    (g : Dev Cert.ExpertsIdeal.nD → PrngReg) (hg : Cert.ExpertsIdeal.Tables.Good (Cert.ExpertsIdeal.Run.tabs m)) :
    θ_run Cert.ExpertsIdeal.defs (onTc (τ := Cert.ExpertsIdeal.τ) (Cert.ExpertsIdeal.main (F := F))) ⟨m, fun _ => 0, g⟩ fun r =>
      (∀ c : Dev Cert.ExpertsIdeal.nD,
        r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
        ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
        ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0 :=
  (θ_run Cert.ExpertsIdeal.defs _ _).mono (fun _ h => ⟨fun c => (h.1 c).2, h.2⟩) (Cert.ExpertsIdeal.Run.run_main (F := F) m g hg)

theorem bodies_experts : Cert.Experts.defs₀ (F := Bits) = Cert.ExpertsIdeal.defs₀ (F := Bits) := by
  refine congrArg Defs.onTc (funext fun l => funext fun x => ?_)
  match l, x with
  | ⟨0, _⟩, (t, s) => rfl
theorem tables_experts : Cert.Experts.defs (F := Bits) = Cert.ExpertsIdeal.defs (F := Bits) :=
  congrArg (Pipeline.defs (Cert.Experts.pcfgs (F := Bits))) bodies_experts

theorem frame_e : Cert.quiescent_Experts := by
  intro m g h
  rw [tables_experts]
  exact frame_experts (F := Bits) m g (Cert.ExpertsIdeal.Final.in_range (F := Bits) m (h 0))
theorem frame_ei : Cert.quiescent_ExpertsIdeal :=
  fun m g h => frame_experts (F := Ideal) m g (Cert.ExpertsIdeal.Final.in_range (F := Ideal) m (h 0))

theorem frame_er : Cert.quiescent_ExpertsRefIdeal := by
  intro m g _
  refine (θ_run Cert.ExpertsRefIdeal.defs _ _).mono (fun r h => ⟨fun c => (h c).2,
    Idealize.ShloMosaic.sem_eq_zero_of_no_sems (by decide) r.2⟩) (Cert.ExpertsRefIdeal.Value.run (F := Ideal) m g)
theorem frame_erp : Cert.quiescent_ExpertsRefIdeal_pre_tables_in_range := fun m g _ => frame_er m g trivial

theorem experts : Cert.algebraic_ExpertsIdeal_ExpertsRefIdeal_on_token_rows := by
  intro m g m' g' hpre hagree
  have hg := Cert.ExpertsIdeal.Final.in_range (F := Ideal) m (hpre 0)
  refine ⟨fun c => (Cert.ExpertsIdeal.Run.data (Cert.ExpertsIdeal.Run.mem m) (Cert.ExpertsIdeal.Run.tabs m) hg c).arrAt 7
    (Cert.ExpertsIdeal.Run.cf (Cert.ExpertsIdeal.Run.tabs m) hg).N, ?_, ?_⟩
  · exact (θ_run Cert.ExpertsIdeal.defs _ _).mono (fun r h c => ⟨fun i _ => congrFun (h.1 c).1 i, (h.1 c).2⟩)
      (Cert.ExpertsIdeal.Run.run_main (F := Ideal) m g hg)
  · refine (θ_run Cert.ExpertsRefIdeal.defs _ _).mono (fun r h c => ⟨fun i hi => ?_, (h c).2⟩)
      (Cert.ExpertsRefIdeal.Value.run (F := Ideal) m' g')
    obtain ⟨h0, -, -, h3, h4, h5, h6, h7⟩ := hagree c
    refine (congrFun ((h c).1.trans ((Cert.ExpertsRefIdeal.Value.res_eq m' c).trans ?_)) i).trans
      (Cert.ExpertsIdeal.Final.final m c hg (hpre c) i hi).symm
    exact congr (congr (congr (congr (congr (congrArg Cert.ExpertsRefIdeal.Value.REF h0) h3) h4) h5) h6) h7

theorem claim : Cert.Claim :=
  ⟨Cert.Kernel.Gen.facts, Cert.KernelIdeal.Gen.facts, Cert.ReferenceIdeal.Gen.facts, Cert.Merge.Gen.facts, Cert.MergeIdeal.Gen.facts, Cert.MergeRefIdeal.Gen.facts, Cert.Combine.Gen.facts, Cert.CombineIdeal.Gen.facts, Cert.CombineRefIdeal.Gen.facts,
    Cert.Experts.Gen.facts, Cert.ExpertsIdeal.Gen.facts, Cert.ExpertsRefIdeal.Gen.facts, Cert.Pre_tables_in_range.Gen.facts, Cert.On_token_rows.Gen.facts,
    frame_k,
    frame_ki,
    frame_r,
    fun m g _ => Cert.Merge.Gen.frame m g,
    fun m g _ => Cert.MergeIdeal.Gen.frame m g,
    frame_mr,
    fun m g _ => Cert.Combine.Gen.frame m g,
    fun m g _ => Cert.CombineIdeal.Gen.frame m g,
    frame_cr,
    frame_e, frame_ei, frame_er, frame_erp,
    trivial, projection, trivial, merge, trivial, combine, trivial, experts⟩

end Cert.Proof

end
